-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_weights [hPre_finite_weights : Cert.Pre_finite_weights.Facts] (m : (ℓ : Loc Cert.ModIdeal.nD Cert.ModIdeal.τ Cert.ModIdeal.sig) → Buf (Elt Ideal) ℓ) : Prop :=
  ∀ c : Dev Cert.ModIdeal.nD,
    (Cert.Pre_finite_weights.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).1 = (fun _ => 1#1)
    ∧ (Cert.Pre_finite_weights.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))).2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_weights [hPre_finite_weights : Cert.Pre_finite_weights.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_weights.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).1 = (fun _ => 1#1)
    ∧ (Cert.Pre_finite_weights.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_steps [hPre_finite_steps : Cert.Pre_finite_steps.Facts] (m : (ℓ : Loc Cert.NormIdeal.nD Cert.NormIdeal.τ Cert.NormIdeal.sig) → Buf (Elt Ideal) ℓ) : Prop :=
  ∀ c : Dev Cert.NormIdeal.nD,
    (Cert.Pre_finite_steps.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_steps [hPre_finite_steps : Cert.Pre_finite_steps.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_steps.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_finite_weights [hModIdeal : Cert.ModIdeal.Facts] [hPre_finite_weights : Cert.Pre_finite_weights.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_weights m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_finite_weights [hModRefIdeal : Cert.ModRefIdeal.Facts] [hPre_finite_weights : Cert.Pre_finite_weights.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_weights m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_finite_steps [hNormIdeal : Cert.NormIdeal.Facts] [hPre_finite_steps : Cert.Pre_finite_steps.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_steps m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_finite_steps [hNormRefIdeal : Cert.NormRefIdeal.Facts] [hPre_finite_steps : Cert.Pre_finite_steps.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_steps m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v72) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mod_ModIdeal : Prop :=
  True

def algebraic_ModIdeal_ModRefIdeal_pre_finite_weights [hModIdeal : Cert.ModIdeal.Facts] [hModRefIdeal : Cert.ModRefIdeal.Facts] [hPre_finite_weights : Cert.Pre_finite_weights.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_weights m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v91) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm_NormIdeal : Prop :=
  True

def algebraic_NormIdeal_NormRefIdeal_pre_finite_steps [hNormIdeal : Cert.NormIdeal.Facts] [hNormRefIdeal : Cert.NormRefIdeal.Facts] [hPre_finite_steps : Cert.Pre_finite_steps.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_steps m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v17_0)) (v1 : (c : Dev Cert.NormIdeal.nD) → Buf (Elt Ideal) ((c.tc : Thread Cert.NormIdeal.nD Cert.NormIdeal.τ).loc Cert.NormIdeal.main_v17_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v17_0) = v0 c
          ∧ r.2.mem ((c.tc : Thread Cert.NormIdeal.nD Cert.NormIdeal.τ).loc Cert.NormIdeal.main_v17_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v67) = v0 c
          ∧ r.2.mem ((c.tc : Thread Cert.NormRefIdeal.nD Cert.NormRefIdeal.τ).loc Cert.NormRefIdeal.main_v70) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMod : Cert.Mod.Facts) (hModIdeal : Cert.ModIdeal.Facts) (hModRefIdeal : Cert.ModRefIdeal.Facts) (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hPre_finite_scores : Cert.Pre_finite_scores.Facts) (hPre_finite_weights : Cert.Pre_finite_weights.Facts) (hPre_finite_steps : Cert.Pre_finite_steps.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mod (hMod := hMod)
    ∧ quiescent_ModIdeal (hModIdeal := hModIdeal)
    ∧ quiescent_ModIdeal_pre_finite_weights (hModIdeal := hModIdeal) (hPre_finite_weights := hPre_finite_weights)
    ∧ quiescent_ModRefIdeal (hModRefIdeal := hModRefIdeal)
    ∧ quiescent_ModRefIdeal_pre_finite_weights (hModRefIdeal := hModRefIdeal) (hPre_finite_weights := hPre_finite_weights)
    ∧ quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormIdeal_pre_finite_steps (hNormIdeal := hNormIdeal) (hPre_finite_steps := hPre_finite_steps)
    ∧ quiescent_NormRefIdeal (hNormRefIdeal := hNormRefIdeal)
    ∧ quiescent_NormRefIdeal_pre_finite_steps (hNormRefIdeal := hNormRefIdeal) (hPre_finite_steps := hPre_finite_steps)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Mod_ModIdeal
    ∧ algebraic_ModIdeal_ModRefIdeal_pre_finite_weights (hModIdeal := hModIdeal) (hModRefIdeal := hModRefIdeal) (hPre_finite_weights := hPre_finite_weights)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal_pre_finite_steps (hNormIdeal := hNormIdeal) (hNormRefIdeal := hNormRefIdeal) (hPre_finite_steps := hPre_finite_steps)
-- ==== Pre_finite_scores.lean ====
abbrev S4x16x8192x64 : Shape := ⟨4, ![4, 16, 8192, 64]⟩
abbrev S4x4x8448x64 : Shape := ⟨4, ![4, 4, 8448, 64]⟩
abbrev S1x128 : Shape := ⟨2, ![1, 128]⟩
abbrev S_ : Shape := ⟨0, ![]⟩

class Facts : Prop where
  bcast_S_S4x16x8192x64 : S_.BroadcastsInDim S4x16x8192x64 (![] : Fin 0 → Fin S4x16x8192x64.rank)
  bcast_S_S4x4x8448x64 : S_.BroadcastsInDim S4x4x8448x64 (![] : Fin 0 → Fin S4x4x8448x64.rank)

variable [Facts]

def fn {F : FTy → Type} [FloatOps F] (main_arg0 : FVec F S4x16x8192x64 .bf16) (main_arg1 : FVec F S4x4x8448x64 .bf16) (main_arg2 : FVec F S4x4x8448x64 .bf16) (main_arg3 : FVec F S1x128 .f32) (main_arg4 : FVec F S1x128 .f32) : IVec S4x16x8192x64 1 × IVec S4x4x8448x64 1 :=
  let main_cst : FVec F S_ .bf16 := constant S_ .bf16 0x7F80#16
  let main_v0 : FVec F S4x16x8192x64 .bf16 := broadcastInDim S4x16x8192x64 ![] bcast_S_S4x16x8192x64 main_cst
  let main_v1 : IVec S4x16x8192x64 1 := cmpf .olt main_arg0 main_v0
  let main_cst_0 : FVec F S_ .bf16 := constant S_ .bf16 0x7F80#16
  let main_v2 : FVec F S_ .bf16 := Host.negf main_cst_0
  let main_v3 : FVec F S4x16x8192x64 .bf16 := broadcastInDim S4x16x8192x64 ![] bcast_S_S4x16x8192x64 main_v2
  let main_v4 : IVec S4x16x8192x64 1 := cmpf .ogt main_arg0 main_v3
  let main_v5 : IVec S4x16x8192x64 1 := andi main_v1 main_v4
  let main_cst_1 : FVec F S_ .bf16 := constant S_ .bf16 0x7F80#16
  let main_v6 : FVec F S4x4x8448x64 .bf16 := broadcastInDim S4x4x8448x64 ![] bcast_S_S4x4x8448x64 main_cst_1
  let main_v7 : IVec S4x4x8448x64 1 := cmpf .olt main_arg1 main_v6
  let main_cst_2 : FVec F S_ .bf16 := constant S_ .bf16 0x7F80#16
  let main_v8 : FVec F S_ .bf16 := Host.negf main_cst_2
  let main_v9 : FVec F S4x4x8448x64 .bf16 := broadcastInDim S4x4x8448x64 ![] bcast_S_S4x4x8448x64 main_v8
  let main_v10 : IVec S4x4x8448x64 1 := cmpf .ogt main_arg1 main_v9
  let main_v11 : IVec S4x4x8448x64 1 := andi main_v7 main_v10
  (main_v5, main_v11)
-- ==== Pre_finite_steps.lean ====
abbrev S4x8192x1024 : Shape := ⟨3, ![4, 8192, 1024]⟩
abbrev S4x256x1024 : Shape := ⟨3, ![4, 256, 1024]⟩
abbrev S16x1x3072 : Shape := ⟨3, ![16, 1, 3072]⟩
abbrev S1x1024 : Shape := ⟨2, ![1, 1024]⟩
abbrev S1x1024x9792 : Shape := ⟨3, ![1, 1024, 9792]⟩
abbrev S1x2x32 : Shape := ⟨3, ![1, 2, 32]⟩
abbrev S1x1024x64 : Shape := ⟨3, ![1, 1024, 64]⟩
abbrev S_ : Shape := ⟨0, ![]⟩

class Facts : Prop where
  slices_S1x1024x9792_S1x1024x64_0_0_5120 : S1x1024x9792.Slices ![0, 0, 5120] S1x1024x64
  bcast_S_S1x1024x64 : S_.BroadcastsInDim S1x1024x64 (![] : Fin 0 → Fin S1x1024x64.rank)

variable [Facts]

def fn {F : FTy → Type} [FloatOps F] (main_arg0 : FVec F S4x8192x1024 .f32) (main_arg1 : FVec F S4x256x1024 .f32) (main_arg2 : FVec F S16x1x3072 .f32) (main_arg3 : FVec F S1x1024 .f32) (main_arg4 : FVec F S1x1024x9792 .f32) (main_arg5 : FVec F S1x2x32 .f32) (main_arg6 : FVec F S1x2x32 .f32) : IVec S1x1024x64 1 :=
  let main_v0 : FVec F S1x1024x64 .f32 := (extractStridedSlice S1x1024x64 ![0, 0, 5120] · slices_S1x1024x9792_S1x1024x64_0_0_5120) main_arg4
  let main_cst : FVec F S_ .f32 := constant S_ .f32 0x7F800000#32
  let main_v1 : FVec F S1x1024x64 .f32 := broadcastInDim S1x1024x64 ![] bcast_S_S1x1024x64 main_cst
  let main_v2 : IVec S1x1024x64 1 := cmpf .olt main_v0 main_v1
  let main_cst_0 : FVec F S_ .f32 := constant S_ .f32 0x7F800000#32
  let main_v3 : FVec F S_ .f32 := Host.negf main_cst_0
  let main_v4 : FVec F S1x1024x64 .f32 := broadcastInDim S1x1024x64 ![] bcast_S_S1x1024x64 main_v3
  let main_v5 : IVec S1x1024x64 1 := cmpf .ogt main_v0 main_v4
  let main_v6 : IVec S1x1024x64 1 := andi main_v2 main_v5
  main_v6
-- ==== Pre_finite_weights.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩

class Facts : Prop where
  bcast_S_S16x1024 : S_.BroadcastsInDim S16x1024 (![] : Fin 0 → Fin S16x1024.rank)
  bcast_S_S1x1024x3072 : S_.BroadcastsInDim S1x1024x3072 (![] : Fin 0 → Fin S1x1024x3072.rank)

variable [Facts]

def fn {F : FTy → Type} [FloatOps F] (main_arg0 : FVec F S16x1024 .f32) (main_arg1 : FVec F S1x1024x3072 .f32) (main_arg2 : FVec F S1x3072 .f32) : IVec S16x1024 1 × IVec S1x1024x3072 1 :=
  let main_cst : FVec F S_ .f32 := constant S_ .f32 0x7F800000#32
  let main_v0 : FVec F S16x1024 .f32 := broadcastInDim S16x1024 ![] bcast_S_S16x1024 main_cst
  let main_v1 : IVec S16x1024 1 := cmpf .olt main_arg0 main_v0
  let main_cst_0 : FVec F S_ .f32 := constant S_ .f32 0x7F800000#32
  let main_v2 : FVec F S_ .f32 := Host.negf main_cst_0
  let main_v3 : FVec F S16x1024 .f32 := broadcastInDim S16x1024 ![] bcast_S_S16x1024 main_v2
  let main_v4 : IVec S16x1024 1 := cmpf .ogt main_arg0 main_v3
  let main_v5 : IVec S16x1024 1 := andi main_v1 main_v4
  let main_cst_1 : FVec F S_ .f32 := constant S_ .f32 0x7F800000#32
  let main_v6 : FVec F S1x1024x3072 .f32 := broadcastInDim S1x1024x3072 ![] bcast_S_S1x1024x3072 main_cst_1
  let main_v7 : IVec S1x1024x3072 1 := cmpf .olt main_arg1 main_v6
  let main_cst_2 : FVec F S_ .f32 := constant S_ .f32 0x7F800000#32
  let main_v8 : FVec F S_ .f32 := Host.negf main_cst_2
  let main_v9 : FVec F S1x1024x3072 .f32 := broadcastInDim S1x1024x3072 ![] bcast_S_S1x1024x3072 main_v8
  let main_v10 : IVec S1x1024x3072 1 := cmpf .ogt main_arg1 main_v9
  let main_v11 : IVec S1x1024x3072 1 := andi main_v7 main_v10
  (main_v5, main_v11)
-- ==== Kernel.lean ====
abbrev S4x16x8192x64 : Shape := ⟨4, ![4, 16, 8192, 64]⟩
abbrev S4x4x8448x64 : Shape := ⟨4, ![4, 4, 8448, 64]⟩
abbrev S1x128 : Shape := ⟨2, ![1, 128]⟩
abbrev S4x4x64x8448 : Shape := ⟨4, ![4, 4, 64, 8448]⟩
abbrev S_ : Shape := ⟨0, ![]⟩
abbrev S4x4x16x8448 : Shape := ⟨4, ![4, 4, 16, 8448]⟩
abbrev S4x4x80x8448 : Shape := ⟨4, ![4, 4, 80, 8448]⟩
abbrev S4x8192x1024 : Shape := ⟨3, ![4, 8192, 1024]⟩
abbrev S1x4x1024x64 : Shape := ⟨4, ![1, 4, 1024, 64]⟩
abbrev S1x1x8448x64 : Shape := ⟨4, ![1, 1, 8448, 64]⟩
abbrev S1x1x80x8448 : Shape := ⟨4, ![1, 1, 80, 8448]⟩
abbrev S1x1024x256 : Shape := ⟨3, ![1, 1024, 256]⟩
abbrev S4x1024x64 : Shape := ⟨3, ![4, 1024, 64]⟩
abbrev S4096x64 : Shape := ⟨2, ![4096, 64]⟩
abbrev S1 : Shape := ⟨1, ![1]⟩
abbrev S1x1 : Shape := ⟨2, ![1, 1]⟩
abbrev S80x4096 : Shape := ⟨2, ![80, 4096]⟩
abbrev S1x1x512x64 : Shape := ⟨4, ![1, 1, 512, 64]⟩
abbrev S512x64 : Shape := ⟨2, ![512, 64]⟩
abbrev S512x4096 : Shape := ⟨2, ![512, 4096]⟩
abbrev S1x1x80x512 : Shape := ⟨4, ![1, 1, 80, 512]⟩
abbrev S80x512 : Shape := ⟨2, ![80, 512]⟩
abbrev S1x1x256x64 : Shape := ⟨4, ![1, 1, 256, 64]⟩
abbrev S256x64 : Shape := ⟨2, ![256, 64]⟩
abbrev S256x4096 : Shape := ⟨2, ![256, 4096]⟩
abbrev S1x1x80x256 : Shape := ⟨4, ![1, 1, 80, 256]⟩
abbrev S80x256 : Shape := ⟨2, ![80, 256]⟩
abbrev S64x4096 : Shape := ⟨2, ![64, 4096]⟩
abbrev S1x4096 : Shape := ⟨2, ![1, 4096]⟩
abbrev S64x1024 : Shape := ⟨2, ![64, 1024]⟩
abbrev S256x1024 : Shape := ⟨2, ![256, 1024]⟩
abbrev S1024x256 : Shape := ⟨2, ![1024, 256]⟩
abbrev S4096 : Shape := ⟨1, ![4096]⟩

abbrev nBuf : Space → Nat
  | .hbm => 10
  | .vmem => 10
  | .smem => 0
  | _ => 0

abbrev bufTy : (tb : Table) → Fin (tcTables nBuf tb) → BufTy
  | .hbm, ⟨0, _⟩ => ⟨S4x16x8192x64, .bf16⟩
  | .hbm, ⟨1, _⟩ => ⟨S4x4x8448x64, .bf16⟩
  | .hbm, ⟨2, _⟩ => ⟨S4x4x8448x64, .bf16⟩
  | .hbm, ⟨3, _⟩ => ⟨S1x128, .f32⟩
  | .hbm, ⟨4, _⟩ => ⟨S1x128, .f32⟩
  | .hbm, ⟨5, _⟩ => ⟨S4x4x64x8448, .bf16⟩
  | .hbm, ⟨6, _⟩ => ⟨S_, .bf16⟩
  | .hbm, ⟨7, _⟩ => ⟨S4x4x16x8448, .bf16⟩
  | .hbm, ⟨8, _⟩ => ⟨S4x4x80x8448, .bf16⟩
  | .hbm, ⟨9, _⟩ => ⟨S4x8192x1024, .bf16⟩
  | .local _ .vmem, ⟨0, _⟩ => ⟨S1x4x1024x64, .bf16⟩
  | .local _ .vmem, ⟨1, _⟩ => ⟨S1x4x1024x64, .bf16⟩
  | .local _ .vmem, ⟨2, _⟩ => ⟨S1x1x8448x64, .bf16⟩
  | .local _ .vmem, ⟨3, _⟩ => ⟨S1x1x8448x64, .bf16⟩
  | .local _ .vmem, ⟨4, _⟩ => ⟨S1x1x80x8448, .bf16⟩
  | .local _ .vmem, ⟨5, _⟩ => ⟨S1x1x80x8448, .bf16⟩
  | .local _ .vmem, ⟨6, _⟩ => ⟨S1x128, .f32⟩
  | .local _ .vmem, ⟨7, _⟩ => ⟨S1x128, .f32⟩
  | .local _ .vmem, ⟨8, _⟩ => ⟨S1x1024x256, .bf16⟩
  | .local _ .vmem, ⟨9, _⟩ => ⟨S1x1024x256, .bf16⟩
  | _, _ => ⟨S4x16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32_18 : BitVec 32 := 0#32
  let c16_i32 : BitVec 32 := 16#32
  let v25 : BitVec 32 := Scalar.addi c0_i32_18 c16_i32
  let c1_i32 : BitVec 32 := 1#32
  ⟨c0_i32_18, v25, c1_i32⟩
def k0_mult1 (k0_t1 : Fin k0_t1_loop.trips) : BitVec 32 :=
  let c0_i32_18 : BitVec 32 := 0#32
  let c1_i32 : BitVec 32 := 1#32
  let arg9 : BitVec 32 := Scf.iv c0_i32_18 c1_i32 k0_t1
  let c512_i32 : BitVec 32 := 512#32
  let v59 : BitVec 32 := Scalar.muli arg9 c512_i32
  v59
def k0_off1 (k0_t1 : Fin k0_t1_loop.trips) : Fin 4 → Nat :=
  let c0_33 : Index := 0#32
  let c0_34 : Index := 0#32
  let c0_i32_18 : BitVec 32 := 0#32
  let c1_i32 : BitVec 32 := 1#32
  let arg9 : BitVec 32 := Scf.iv c0_i32_18 c1_i32 k0_t1
  let c512_i32 : BitVec 32 := 512#32
  let v59 : BitVec 32 := Scalar.muli arg9 c512_i32
  let v60 : BitVec 32 := v59
  let v61 : Index := Scalar.indexCast v60
  let c0_35 : Index := 0#32
  ![0, 0, v61.toNat, 0]
def k0_off2 (k0_t1 : Fin k0_t1_loop.trips) : Fin 4 → Nat :=
  let c0_36 : Index := 0#32
  let c0_37 : Index := 0#32
  let c0_38 : Index := 0#32
  let c0_i32_18 : BitVec 32 := 0#32
  let c1_i32 : BitVec 32 := 1#32
  let arg9 : BitVec 32 := Scf.iv c0_i32_18 c1_i32 k0_t1
  let c512_i32 : BitVec 32 := 512#32
  let v59 : BitVec 32 := Scalar.muli arg9 c512_i32
  let v60 : BitVec 32 := v59
  let v64 : Index := Scalar.indexCast v60
  ![0, 0, 0, v64.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x16x8192x64 : Shape := ⟨4, ![4, 16, 8192, 64]⟩
abbrev S4x4x8448x64 : Shape := ⟨4, ![4, 4, 8448, 64]⟩
abbrev S1x128 : Shape := ⟨2, ![1, 128]⟩
abbrev S4x4x4x8192x64 : Shape := ⟨5, ![4, 4, 4, 8192, 64]⟩
abbrev S4x4x4x8192x8448 : Shape := ⟨5, ![4, 4, 4, 8192, 8448]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩
abbrev S4x8192x4x4x64 : Shape := ⟨5, ![4, 8192, 4, 4, 64]⟩
abbrev S4x8192x1024 : Shape := ⟨3, ![4, 8192, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x16x8192x64, .bf16⟩
  | .hbm, ⟨1, _⟩ => ⟨S4x4x8448x64, .bf16⟩
  | .hbm, ⟨2, _⟩ => ⟨S4x4x8448x64, .bf16⟩
  | .hbm, ⟨3, _⟩ => ⟨S1x128, .f32⟩
  | .hbm, ⟨4, _⟩ => ⟨S1x128, .f32⟩
  | .hbm, ⟨5, _⟩ => ⟨S4x16x8192x64, .f32⟩
  | .hbm, ⟨6, _⟩ => ⟨S4x4x4x8192x64, .f32⟩
  | .hbm, ⟨7, _⟩ => ⟨S4x4x8448x64, .f32⟩
  | .hbm, ⟨8, _⟩ => ⟨S4x4x4x8192x8448, .f32⟩
  | .hbm, ⟨9, _⟩ => ⟨S_, .f32⟩
  | .hbm, ⟨10, _⟩ => ⟨S_, .f32⟩
  | .hbm, ⟨11, _⟩ => ⟨S4x4x4x8192x8448, .f32⟩
  | .hbm, ⟨12, _⟩ => ⟨S4x4x4x8192x8448, .f32⟩
  | .hbm, ⟨13, _⟩ => ⟨S_, .f32⟩
  | .hbm, ⟨14, _⟩ => ⟨S4x4x4x8192, .f32⟩
  | .hbm, ⟨15, _⟩ => ⟨S_, .f32⟩
  | .hbm, ⟨16, _⟩ => ⟨S4x4x4x8192, .f32⟩
  | .hbm, ⟨17, _⟩ => ⟨S4x4x4x8192, .f32⟩
  | .hbm, ⟨18, _⟩ => ⟨S4x4x4x8192x1, .f32⟩
  | .hbm, ⟨19, _⟩ => ⟨S4x4x4x8192x8448, .f32⟩
  | .hbm, ⟨20, _⟩ => ⟨S4x4x4x8192x8448, .f32⟩
  | .hbm, ⟨21, _⟩ => ⟨S4x4x4x8192x8448, .f32⟩
  | .hbm, ⟨22, _⟩ => ⟨S_, .f32⟩
  | .hbm, ⟨23, _⟩ => ⟨S4x4x4x8192, .f32⟩
  | .hbm, ⟨24, _⟩ => ⟨S4x4x4x8192x1, .f32⟩
  | .hbm, ⟨25, _⟩ => ⟨S4x4x4x8192x8448, .f32⟩
  | .hbm, ⟨26, _⟩ => ⟨S4x4x4x8192x8448, .f32⟩
  | .hbm, ⟨27, _⟩ => ⟨S4x4x8448x64, .f32⟩
  | .hbm, ⟨28, _⟩ => ⟨S4x4x64x4x8192, .f32⟩
  | .hbm, ⟨29, _⟩ => ⟨S4x8192x4x4x64, .f32⟩
  | .hbm, ⟨30, _⟩ => ⟨S4x8192x1024, .f32⟩
  | .hbm, ⟨31, _⟩ => ⟨S4x8192x1024, .bf16⟩
  | _, _ => ⟨S4x16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== InProj.lean ====
abbrev S33792x1024 : Shape := ⟨2, ![33792, 1024]⟩
abbrev S1024x9856 : Shape := ⟨2, ![1024, 9856]⟩
abbrev S33792x9856 : Shape := ⟨2, ![33792, 9856]⟩
abbrev S1536x1024 : Shape := ⟨2, ![1536, 1024]⟩
abbrev S1024x1408 : Shape := ⟨2, ![1024, 1408]⟩
abbrev S1536x1408 : Shape := ⟨2, ![1536, 1408]⟩

abbrev nBuf : Space → Nat
  | .hbm => 3
  | .vmem => 6
  | .smem => 0
  | _ => 0

abbrev bufTy : (tb : Table) → Fin (tcTables nBuf tb) → BufTy
  | .hbm, ⟨0, _⟩ => ⟨S33792x1024, .bf16⟩
  | .hbm, ⟨1, _⟩ => ⟨S1024x9856, .bf16⟩
  | .hbm, ⟨2, _⟩ => ⟨S33792x9856, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1536x1408, .bf16⟩
  | .local _ .vmem, ⟨5, _⟩ => ⟨S1536x1408, .bf16⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S33792x1024 : Shape := ⟨2, ![33792, 1024]⟩
abbrev S1024x9856 : Shape := ⟨2, ![1024, 9856]⟩
abbrev S33792x9856 : Shape := ⟨2, ![33792, 9856]⟩

abbrev nBuf : Space → Nat
  | .hbm => 6
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S1024x9856, .bf16⟩
  | .hbm, ⟨2, _⟩ => ⟨S33792x1024, .f32⟩
  | .hbm, ⟨3, _⟩ => ⟨S1024x9856, .f32⟩
  | .hbm, ⟨4, _⟩ => ⟨S33792x9856, .f32⟩
  | .hbm, ⟨5, _⟩ => ⟨S33792x9856, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S4x8448x2048 : Shape := ⟨3, ![4, 8448, 2048]⟩
abbrev S4x8448x3072 : Shape := ⟨3, ![4, 8448, 3072]⟩
abbrev S4x8448x9856 : Shape := ⟨3, ![4, 8448, 9856]⟩
abbrev S4x8192x1024 : Shape := ⟨3, ![4, 8192, 1024]⟩
abbrev S16x1x3072 : Shape := ⟨3, ![16, 1, 3072]⟩
abbrev S1x32 : Shape := ⟨2, ![1, 32]⟩
abbrev S1x2048 : Shape := ⟨2, ![1, 2048]⟩
abbrev S1x2048x1024 : Shape := ⟨3, ![1, 2048, 1024]⟩
abbrev S1x1024x1024 : Shape := ⟨3, ![1, 1024, 1024]⟩
abbrev S32 : Shape := ⟨1, ![32]⟩
abbrev S32x64 : Shape := ⟨2, ![32, 64]⟩
abbrev S2048 : Shape := ⟨1, ![2048]⟩
abbrev S2048x1024 : Shape := ⟨2, ![2048, 1024]⟩
abbrev S1024x1024 : Shape := ⟨2, ![1024, 1024]⟩
abbrev S1x256x2048 : Shape := ⟨3, ![1, 256, 2048]⟩
abbrev S1x256x1024 : Shape := ⟨3, ![1, 256, 1024]⟩
abbrev S1x1x3072 : Shape := ⟨3, ![1, 1, 3072]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1x3072 : Shape := ⟨2, ![1, 3072]⟩
abbrev S1x1024 : Shape := ⟨2, ![1, 1024]⟩

abbrev nBuf : Space → Nat
  | .hbm => 25
  | .vmem => 27
  | .smem => 0
  | _ => 0

abbrev bufTy : (tb : Table) → Fin (tcTables nBuf tb) → BufTy
  | .hbm, ⟨0, _⟩ => ⟨S4x8448x2048, .bf16⟩
  | .hbm, ⟨1, _⟩ => ⟨S4x8448x2048, .bf16⟩
  | .hbm, ⟨2, _⟩ => ⟨S4x8448x3072, .bf16⟩
  | .hbm, ⟨3, _⟩ => ⟨S4x8448x9856, .bf16⟩
  | .hbm, ⟨4, _⟩ => ⟨S4x8192x1024, .bf16⟩
  | .hbm, ⟨5, _⟩ => ⟨S4x8192x1024, .f32⟩
  | .hbm, ⟨6, _⟩ => ⟨S16x1x3072, .f32⟩
  | .hbm, ⟨7, _⟩ => ⟨S1x32, .f32⟩
  | .hbm, ⟨8, _⟩ => ⟨S1x2048, .f32⟩
  | .hbm, ⟨9, _⟩ => ⟨S1x2048x1024, .f32⟩
  | .hbm, ⟨10, _⟩ => ⟨S1x1024x1024, .f32⟩
  | .hbm, ⟨11, _⟩ => ⟨S1x1024x1024, .f32⟩
  | .hbm, ⟨12, _⟩ => ⟨S32, .f32⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048x1024, .f32⟩
  | .hbm, ⟨19, _⟩ => ⟨S2048x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S4x8192x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x3072, .f32⟩
  | .local _ .vmem, ⟨19, _⟩ => ⟨S1x1x3072, .f32⟩
  | .local _ .vmem, ⟨20, _⟩ => ⟨S1x2048, .f32⟩
  | .local _ .vmem, ⟨21, _⟩ => ⟨S1x2048, .f32⟩
  | .local _ .vmem, ⟨22, _⟩ => ⟨S2048x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x256x1024, .f32⟩
  | .local _ .vmem, ⟨26, _⟩ => ⟨S1x256x1024, .f32⟩
  | _, _ => ⟨S4x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c6_i32 : BitVec 32 := 6#32
  let c0_i32 : BitVec 32 := 0#32
  ![arg0.toNat, v0.toNat, c6_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c7_i32 : BitVec 32 := 7#32
  let c0_i32 : BitVec 32 := 0#32
  ![arg0.toNat, v0.toNat, c7_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c8_i32 : BitVec 32 := 8#32
  let c0_i32 : BitVec 32 := 0#32
  ![arg0.toNat, v0.toNat, c8_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S4x8448x2048 : Shape := ⟨3, ![4, 8448, 2048]⟩
abbrev S4x8448x3072 : Shape := ⟨3, ![4, 8448, 3072]⟩
abbrev S4x8448x9856 : Shape := ⟨3, ![4, 8448, 9856]⟩
abbrev S4x8192x1024 : Shape := ⟨3, ![4, 8192, 1024]⟩
abbrev S16x1x3072 : Shape := ⟨3, ![16, 1, 3072]⟩
abbrev S1x32 : Shape := ⟨2, ![1, 32]⟩
abbrev S1x2048 : Shape := ⟨2, ![1, 2048]⟩
abbrev S1x2048x1024 : Shape := ⟨3, ![1, 2048, 1024]⟩
abbrev S1x1024x1024 : Shape := ⟨3, ![1, 1024, 1024]⟩
abbrev S4x8192x2048 : Shape := ⟨3, ![4, 8192, 2048]⟩
abbrev S4x8192x32x64 : Shape := ⟨4, ![4, 8192, 32, 64]⟩
abbrev S4x8192x3072 : Shape := ⟨3, ![4, 8192, 3072]⟩
abbrev S4x8192x9856 : Shape := ⟨3, ![4, 8192, 9856]⟩
abbrev S32 : Shape := ⟨1, ![32]⟩
abbrev S32x1 : Shape := ⟨2, ![32, 1]⟩
abbrev S1x1x32x1 : Shape := ⟨4, ![1, 1, 32, 1]⟩
abbrev S_ : Shape := ⟨0, ![]⟩
abbrev S4x8192x4x512 : Shape := ⟨4, ![4, 8192, 4, 512]⟩
abbrev S2048 : Shape := ⟨1, ![2048]⟩
abbrev S4x512 : Shape := ⟨2, ![4, 512]⟩
abbrev S4x8192x4 : Shape := ⟨3, ![4, 8192, 4]⟩
abbrev S4x8192x4x1 : Shape := ⟨4, ![4, 8192, 4, 1]⟩
abbrev S1x1x4x512 : Shape := ⟨4, ![1, 1, 4, 512]⟩
abbrev S2048x1024 : Shape := ⟨2, ![2048, 1024]⟩
abbrev S1024x1024 : Shape := ⟨2, ![1024, 1024]⟩
abbrev S4x1x3072 : Shape := ⟨3, ![4, 1, 3072]⟩
abbrev S4x1x1024 : Shape := ⟨3, ![4, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x8448x2048, .bf16⟩
  | .hbm, ⟨1, _⟩ => ⟨S4x8448x2048, .bf16⟩
  | .hbm, ⟨2, _⟩ => ⟨S4x8448x3072, .bf16⟩
  | .hbm, ⟨3, _⟩ => ⟨S4x8448x9856, .bf16⟩
  | .hbm, ⟨4, _⟩ => ⟨S4x8192x1024, .bf16⟩
  | .hbm, ⟨5, _⟩ => ⟨S4x8192x1024, .f32⟩
  | .hbm, ⟨6, _⟩ => ⟨S16x1x3072, .f32⟩
  | .hbm, ⟨7, _⟩ => ⟨S1x32, .f32⟩
  | .hbm, ⟨8, _⟩ => ⟨S1x2048, .f32⟩
  | .hbm, ⟨9, _⟩ => ⟨S1x2048x1024, .f32⟩
  | .hbm, ⟨10, _⟩ => ⟨S1x1024x1024, .f32⟩
  | .hbm, ⟨11, _⟩ => ⟨S1x1024x1024, .f32⟩
  | .hbm, ⟨12, _⟩ => ⟨S4x8192x2048, .bf16⟩
  | .hbm, ⟨13, _⟩ => ⟨S4x8192x2048, .f32⟩
  | .hbm, ⟨14, _⟩ => ⟨S4x8192x2048, .bf16⟩
  | .hbm, ⟨15, _⟩ => ⟨S4x8192x2048, .f32⟩
  | .hbm, ⟨16, _⟩ => ⟨S4x8192x2048, .f32⟩
  | .hbm, ⟨17, _⟩ => ⟨S4x8192x32x64, .f32⟩
  | .hbm, ⟨18, _⟩ => ⟨S4x8192x3072, .bf16⟩
  | .hbm, ⟨19, _⟩ => ⟨S4x8192x3072, .f32⟩
  | .hbm, ⟨20, _⟩ => ⟨S4x8192x2048, .f32⟩
  | .hbm, ⟨21, _⟩ => ⟨S4x8192x32x64, .f32⟩
  | .hbm, ⟨22, _⟩ => ⟨S4x8192x9856, .bf16⟩
  | .hbm, ⟨23, _⟩ => ⟨S4x8192x9856, .f32⟩
  | .hbm, ⟨24, _⟩ => ⟨S4x8192x2048, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S32, .f32⟩
  | .hbm, ⟨29, _⟩ => ⟨S32x1, .f32⟩
  | .hbm, ⟨30, _⟩ => ⟨S1x1x32x1, .f32⟩
  | .hbm, ⟨31, _⟩ => ⟨S4x8192x32x64, .f32⟩
  | .hbm, ⟨32, _⟩ => ⟨S4x8192x32x64, .f32⟩
  | .hbm, ⟨33, _⟩ => ⟨S4x8192x32x64, .f32⟩
  | .hbm, ⟨34, _⟩ => ⟨S4x8192x2048, .f32⟩
  | .hbm, ⟨35, _⟩ => ⟨S4x8192x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S_, .f32⟩
  | .hbm, ⟨41, _⟩ => ⟨S4x8192x2048, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x4x512, .f32⟩
  | .hbm, ⟨46, _⟩ => ⟨S2048, .f32⟩
  | .hbm, ⟨47, _⟩ => ⟨S4x512, .f32⟩
  | .hbm, ⟨48, _⟩ => ⟨S4x8192x4x512, .f32⟩
  | .hbm, ⟨49, _⟩ => ⟨S_, .f32⟩
  | .hbm, ⟨50, _⟩ => ⟨S4x8192x4, .f32⟩
  | .hbm, ⟨51, _⟩ => ⟨S4x8192x4x1, .f32⟩
  | .hbm, ⟨52, _⟩ => ⟨S_, .f32⟩
  | .hbm, ⟨53, _⟩ => ⟨S4x8192x4x1, .f32⟩
  | .hbm, ⟨54, _⟩ => ⟨S4x8192x4x1, .f32⟩
  | .hbm, ⟨55, _⟩ => ⟨S_, .f32⟩
  | .hbm, ⟨56, _⟩ => ⟨S4x8192x4x1, .f32⟩
  | .hbm, ⟨57, _⟩ => ⟨S4x8192x4x1, .f32⟩
  | .hbm, ⟨58, _⟩ => ⟨S4x8192x4x1, .f32⟩
  | .hbm, ⟨59, _⟩ => ⟨S4x8192x4x512, .f32⟩
  | .hbm, ⟨60, _⟩ => ⟨S4x8192x4x512, .f32⟩
  | .hbm, ⟨61, _⟩ => ⟨S1x1x4x512, .f32⟩
  | .hbm, ⟨62, _⟩ => ⟨S4x8192x4x512, .f32⟩
  | .hbm, ⟨63, _⟩ => ⟨S4x8192x4x512, .f32⟩
  | .hbm, ⟨64, _⟩ => ⟨S4x8192x2048, .f32⟩
  | .hbm, ⟨65, _⟩ => ⟨S2048x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S_, .f32⟩
  | .hbm, ⟨71, _⟩ => ⟨S4x8192x1024, .f32⟩
  | .hbm, ⟨72, _⟩ => ⟨S4x8192x1024, .f32⟩
  | .hbm, ⟨73, _⟩ => ⟨S_, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S1024x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S4x1x3072, .f32⟩
  | .hbm, ⟨100, _⟩ => ⟨S4x1x1024, .f32⟩
  | .hbm, ⟨101, _⟩ => ⟨S4x1x1024, .f32⟩
  | .hbm, ⟨102, _⟩ => ⟨S4x1x1024, .f32⟩
  | .hbm, ⟨103, _⟩ => ⟨S1024x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S4x8192x1024, .f32⟩
  | _, _ => ⟨S4x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_2 : Ref sig .tc := ⟨.hbm, 82, rfl⟩
abbrev main_v51 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_4 : Ref sig .tc := ⟨.hbm, 91, rfl⟩
abbrev main_v58 : Ref sig .tc := ⟨.hbm, 92, rfl⟩
abbrev main_v59 : Ref sig .tc := ⟨.hbm, 93, rfl⟩
abbrev main_cst_5 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Mod.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x3072, .f32⟩
  | .hbm, ⟨13, _⟩ => ⟨S16x3072, .f32⟩
  | .hbm, ⟨14, _⟩ => ⟨S3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Conv.lean ====
abbrev S4x8448x9856 : Shape := ⟨3, ![4, 8448, 9856]⟩
abbrev S1x5x3072 : Shape := ⟨3, ![1, 5, 3072]⟩
abbrev S1x3072 : Shape := ⟨2, ![1, 3072]⟩
abbrev S5x3072 : Shape := ⟨2, ![5, 3072]⟩
abbrev S3072 : Shape := ⟨1, ![3072]⟩
abbrev S4x8448x3072 : Shape := ⟨3, ![4, 8448, 3072]⟩
abbrev S1x256x1024 : Shape := ⟨3, ![1, 256, 1024]⟩
abbrev S1x16x1024 : Shape := ⟨3, ![1, 16, 1024]⟩
abbrev S5x1024 : Shape := ⟨2, ![5, 1024]⟩
abbrev S1x1024 : Shape := ⟨2, ![1, 1024]⟩
abbrev S256x1024 : Shape := ⟨2, ![256, 1024]⟩
abbrev S16x1024 : Shape := ⟨2, ![16, 1024]⟩
abbrev S288x1024 : Shape := ⟨2, ![288, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4x8448x9856, .bf16⟩
  | .hbm, ⟨1, _⟩ => ⟨S1x5x3072, .f32⟩
  | .hbm, ⟨2, _⟩ => ⟨S1x3072, .f32⟩
  | .hbm, ⟨3, _⟩ => ⟨S5x3072, .f32⟩
  | .hbm, ⟨4, _⟩ => ⟨S3072, .f32⟩
  | .hbm, ⟨5, _⟩ => ⟨S1x3072, .f32⟩
  | .hbm, ⟨6, _⟩ => ⟨S4x8448x3072, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | _, _ => ⟨S4x8448x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 33, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c2_i32 : BitVec 32 := 2#32
  let v3 : BitVec 32 := Scalar.addi c2_i32 arg2
  let c0_i32 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ConvRefIdeal.lean ====
abbrev S4x8448x9856 : Shape := ⟨3, ![4, 8448, 9856]⟩
abbrev S1x5x3072 : Shape := ⟨3, ![1, 5, 3072]⟩
abbrev S1x3072 : Shape := ⟨2, ![1, 3072]⟩
abbrev S4x8448x3072 : Shape := ⟨3, ![4, 8448, 3072]⟩
abbrev S4x256x3072 : Shape := ⟨3, ![4, 256, 3072]⟩
abbrev S4x8192x3072 : Shape := ⟨3, ![4, 8192, 3072]⟩
abbrev S5x3072 : Shape := ⟨2, ![5, 3072]⟩
abbrev S3072 : Shape := ⟨1, ![3072]⟩
abbrev S_ : Shape := ⟨0, ![]⟩
abbrev S4x260x3072 : Shape := ⟨3, ![4, 260, 3072]⟩
abbrev S1x1x3072 : Shape := ⟨3, ![1, 1, 3072]⟩
abbrev S4x8196x3072 : Shape := ⟨3, ![4, 8196, 3072]⟩

abbrev nBuf : Space → Nat
  | .hbm => 117
  | .vmem => 0
  | .smem => 0
  | _ => 0

abbrev bufTy : (tb : Table) → Fin (tcTables nBuf tb) → BufTy
  | .hbm, ⟨0, _⟩ => ⟨S4x8448x9856, .bf16⟩
  | .hbm, ⟨1, _⟩ => ⟨S1x5x3072, .f32⟩
  | .hbm, ⟨2, _⟩ => ⟨S1x3072, .f32⟩
  | .hbm, ⟨3, _⟩ => ⟨S4x8448x3072, .bf16⟩
  | .hbm, ⟨4, _⟩ => ⟨S4x8448x3072, .f32⟩
  | .hbm, ⟨5, _⟩ => ⟨S4x256x3072, .f32⟩
  | .hbm, ⟨6, _⟩ => ⟨S4x8192x3072, .f32⟩
  | .hbm, ⟨7, _⟩ => ⟨S5x3072, .f32⟩
  | .hbm, ⟨8, _⟩ => ⟨S3072, .f32⟩
  | .hbm, ⟨9, _⟩ => ⟨S_, .i32⟩
  | .hbm, ⟨10, _⟩ => ⟨S_, .f32⟩
  | .hbm, ⟨11, _⟩ => ⟨S4x260x3072, .f32⟩
  | .hbm, ⟨12, _⟩ => ⟨S1x3072, .f32⟩
  | .hbm, ⟨13, _⟩ => ⟨S3072, .f32⟩
  | .hbm, ⟨14, _⟩ => ⟨S4x256x3072, .f32⟩
  | .hbm, ⟨15, _⟩ => ⟨S1x1x3072, .f32⟩
  | .hbm, ⟨16, _⟩ => ⟨S4x256x3072, .f32⟩
  | .hbm, ⟨17, _⟩ => ⟨S4x256x3072, .f32⟩
  | .hbm, ⟨18, _⟩ => ⟨S_, .f32⟩
  | .hbm, ⟨19, _⟩ => ⟨S4x256x3072, .f32⟩
  | .hbm, ⟨20, _⟩ => ⟨S4x256x3072, .f32⟩
  | .hbm, ⟨21, _⟩ => ⟨S1x3072, .f32⟩
  | .hbm, ⟨22, _⟩ => ⟨S3072, .f32⟩
  | .hbm, ⟨23, _⟩ => ⟨S4x256x3072, .f32⟩
  | .hbm, ⟨24, _⟩ => ⟨S1x1x3072, .f32⟩
  | .hbm, ⟨25, _⟩ => ⟨S4x256x3072, .f32⟩
  | .hbm, ⟨26, _⟩ => ⟨S4x256x3072, .f32⟩
  | .hbm, ⟨27, _⟩ => ⟨S4x256x3072, .f32⟩
  | .hbm, ⟨28, _⟩ => ⟨S1x3072, .f32⟩
  | .hbm, ⟨29, _⟩ => ⟨S3072, .f32⟩
  | .hbm, ⟨30, _⟩ => ⟨S4x256x3072, .f32⟩
  | .hbm, ⟨31, _⟩ => ⟨S1x1x3072, .f32⟩
  | .hbm, ⟨32, _⟩ => ⟨S4x256x3072, .f32⟩
  | .hbm, ⟨33, _⟩ => ⟨S4x256x3072, .f32⟩
  | .hbm, ⟨34, _⟩ => ⟨S4x256x3072, .f32⟩
  | .hbm, ⟨35, _⟩ => ⟨S1x3072, .f32⟩
  | .hbm, ⟨36, _⟩ => ⟨S3072, .f32⟩
  | .hbm, ⟨37, _⟩ => ⟨S4x256x3072, .f32⟩
  | .hbm, ⟨38, _⟩ => ⟨S1x1x3072, .f32⟩
  | .hbm, ⟨39, _⟩ => ⟨S4x256x3072, .f32⟩
  | .hbm, ⟨40, _⟩ => ⟨S4x256x3072, .f32⟩
  | .hbm, ⟨41, _⟩ => ⟨S4x256x3072, .f32⟩
  | .hbm, ⟨42, _⟩ => ⟨S1x3072, .f32⟩
  | .hbm, ⟨43, _⟩ => ⟨S3072, .f32⟩
  | .hbm, ⟨44, _⟩ => ⟨S4x256x3072, .f32⟩
  | .hbm, ⟨45, _⟩ => ⟨S1x1x3072, .f32⟩
  | .hbm, ⟨46, _⟩ => ⟨S4x256x3072, .f32⟩
  | .hbm, ⟨47, _⟩ => ⟨S4x256x3072, .f32⟩
  | .hbm, ⟨48, _⟩ => ⟨S4x256x3072, .f32⟩
  | .hbm, ⟨49, _⟩ => ⟨S1x1x3072, .f32⟩
  | .hbm, ⟨50, _⟩ => ⟨S4x256x3072, .f32⟩
  | .hbm, ⟨51, _⟩ => ⟨S4x256x3072, .f32⟩
  | .hbm, ⟨52, _⟩ => ⟨S4x256x3072, .f32⟩
  | .hbm, ⟨53, _⟩ => ⟨S4x256x3072, .f32⟩
  | .hbm, ⟨54, _⟩ => ⟨S_, .f32⟩
  | .hbm, ⟨55, _⟩ => ⟨S4x256x3072, .f32⟩
  | .hbm, ⟨56, _⟩ => ⟨S4x256x3072, .f32⟩
  | .hbm, ⟨57, _⟩ => ⟨S_, .f32⟩
  | .hbm, ⟨58, _⟩ => ⟨S4x256x3072, .f32⟩
  | .hbm, ⟨59, _⟩ => ⟨S4x256x3072, .f32⟩
  | .hbm, ⟨60, _⟩ => ⟨S4x256x3072, .f32⟩
  | .hbm, ⟨61, _⟩ => ⟨S5x3072, .f32⟩
  | .hbm, ⟨62, _⟩ => ⟨S3072, .f32⟩
  | .hbm, ⟨63, _⟩ => ⟨S_, .i32⟩
  | .hbm, ⟨64, _⟩ => ⟨S_, .f32⟩
  | .hbm, ⟨65, _⟩ => ⟨S4x8196x3072, .f32⟩
  | .hbm, ⟨66, _⟩ => ⟨S1x3072, .f32⟩
  | .hbm, ⟨67, _⟩ => ⟨S3072, .f32⟩
  | .hbm, ⟨68, _⟩ => ⟨S4x8192x3072, .f32⟩
  | .hbm, ⟨69, _⟩ => ⟨S1x1x3072, .f32⟩
  | .hbm, ⟨70, _⟩ => ⟨S4x8192x3072, .f32⟩
  | .hbm, ⟨71, _⟩ => ⟨S4x8192x3072, .f32⟩
  | .hbm, ⟨72, _⟩ => ⟨S_, .f32⟩
  | .hbm, ⟨73, _⟩ => ⟨S4x8192x3072, .f32⟩
  | .hbm, ⟨74, _⟩ => ⟨S4x8192x3072, .f32⟩
  | .hbm, ⟨75, _⟩ => ⟨S1x3072, .f32⟩
  | .hbm, ⟨76, _⟩ => ⟨S3072, .f32⟩
  | .hbm, ⟨77, _⟩ => ⟨S4x8192x3072, .f32⟩
  | .hbm, ⟨78, _⟩ => ⟨S1x1x3072, .f32⟩
  | .hbm, ⟨79, _⟩ => ⟨S4x8192x3072, .f32⟩
  | .hbm, ⟨80, _⟩ => ⟨S4x8192x3072, .f32⟩
  | .hbm, ⟨81, _⟩ => ⟨S4x8192x3072, .f32⟩
  | .hbm, ⟨82, _⟩ => ⟨S1x3072, .f32⟩
  | .hbm, ⟨83, _⟩ => ⟨S3072, .f32⟩
  | .hbm, ⟨84, _⟩ => ⟨S4x8192x3072, .f32⟩
  | .hbm, ⟨85, _⟩ => ⟨S1x1x3072, .f32⟩
  | .hbm, ⟨86, _⟩ => ⟨S4x8192x3072, .f32⟩
  | .hbm, ⟨87, _⟩ => ⟨S4x8192x3072, .f32⟩
  | .hbm, ⟨88, _⟩ => ⟨S4x8192x3072, .f32⟩
  | .hbm, ⟨89, _⟩ => ⟨S1x3072, .f32⟩
  | .hbm, ⟨90, _⟩ => ⟨S3072, .f32⟩
  | .hbm, ⟨91, _⟩ => ⟨S4x8192x3072, .f32⟩
  | .hbm, ⟨92, _⟩ => ⟨S1x1x3072, .f32⟩
  | .hbm, ⟨93, _⟩ => ⟨S4x8192x3072, .f32⟩
  | .hbm, ⟨94, _⟩ => ⟨S4x8192x3072, .f32⟩
  | .hbm, ⟨95, _⟩ => ⟨S4x8192x3072, .f32⟩
  | .hbm, ⟨96, _⟩ => ⟨S1x3072, .f32⟩
  | .hbm, ⟨97, _⟩ => ⟨S3072, .f32⟩
  | .hbm, ⟨98, _⟩ => ⟨S4x8192x3072, .f32⟩
  | .hbm, ⟨99, _⟩ => ⟨S1x1x3072, .f32⟩
  | .hbm, ⟨100, _⟩ => ⟨S4x8192x3072, .f32⟩
  | .hbm, ⟨101, _⟩ => ⟨S4x8192x3072, .f32⟩
  | .hbm, ⟨102, _⟩ => ⟨S4x8192x3072, .f32⟩
  | .hbm, ⟨103, _⟩ => ⟨S1x1x3072, .f32⟩
  | .hbm, ⟨104, _⟩ => ⟨S4x8192x3072, .f32⟩
  | .hbm, ⟨105, _⟩ => ⟨S4x8192x3072, .f32⟩
  | .hbm, ⟨106, _⟩ => ⟨S4x8192x3072, .f32⟩
  | .hbm, ⟨107, _⟩ => ⟨S4x8192x3072, .f32⟩
  | .hbm, ⟨108, _⟩ => ⟨S_, .f32⟩
  | .hbm, ⟨109, _⟩ => ⟨S4x8192x3072, .f32⟩
  | .hbm, ⟨110, _⟩ => ⟨S4x8192x3072, .f32⟩
  | .hbm, ⟨111, _⟩ => ⟨S_, .f32⟩
  | .hbm, ⟨112, _⟩ => ⟨S4x8192x3072, .f32⟩
  | .hbm, ⟨113, _⟩ => ⟨S4x8192x3072, .f32⟩
  | .hbm, ⟨114, _⟩ => ⟨S4x8192x3072, .f32⟩
  | .hbm, ⟨115, _⟩ => ⟨S4x8448x3072, .f32⟩
  | .hbm, ⟨116, _⟩ => ⟨S4x8448x3072, .bf16⟩
  | _, _ => ⟨S4x8448x9856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_0 : Ref sig .tc := ⟨.hbm, 63, rfl⟩
abbrev main_call2_v0 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_1 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Norm.lean ====
abbrev S4x8192x1024 : Shape := ⟨3, ![4, 8192, 1024]⟩
abbrev S4x256x1024 : Shape := ⟨3, ![4, 256, 1024]⟩
abbrev S16x1x3072 : Shape := ⟨3, ![16, 1, 3072]⟩
abbrev S1x1024 : Shape := ⟨2, ![1, 1024]⟩
abbrev S1x1024x9792 : Shape := ⟨3, ![1, 1024, 9792]⟩
abbrev S1x2x32 : Shape := ⟨3, ![1, 2, 32]⟩
abbrev S1024x9792 : Shape := ⟨2, ![1024, 9792]⟩
abbrev S1024x64 : Shape := ⟨2, ![1024, 64]⟩
abbrev S_ : Shape := ⟨0, ![]⟩
abbrev S1024x128 : Shape := ⟨2, ![1024, 128]⟩
abbrev S2x32 : Shape := ⟨2, ![2, 32]⟩
abbrev S1x64 : Shape := ⟨2, ![1, 64]⟩
abbrev S1x128 : Shape := ⟨2, ![1, 128]⟩
abbrev S1024 : Shape := ⟨1, ![1024]⟩
abbrev S4x8448x1024 : Shape := ⟨3, ![4, 8448, 1024]⟩
abbrev S4x8448x128 : Shape := ⟨3, ![4, 8448, 128]⟩
abbrev S1x256x1024 : Shape := ⟨3, ![1, 256, 1024]⟩
abbrev S1x1x3072 : Shape := ⟨3, ![1, 1, 3072]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x3072 : Shape := ⟨2, ![1, 3072]⟩
abbrev S1024x256 : Shape := ⟨2, ![1024, 256]⟩
abbrev S256x256 : Shape := ⟨2, ![256, 256]⟩
abbrev S256x128 : Shape := ⟨2, ![256, 128]⟩
abbrev S256x64 : Shape := ⟨2, ![256, 64]⟩

abbrev nBuf : Space → Nat
  | .hbm => 32
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S16x1x3072, .f32⟩
  | .hbm, ⟨3, _⟩ => ⟨S1x1024, .f32⟩
  | .hbm, ⟨4, _⟩ => ⟨S1x1024x9792, .f32⟩
  | .hbm, ⟨5, _⟩ => ⟨S1x2x32, .f32⟩
  | .hbm, ⟨6, _⟩ => ⟨S1x2x32, .f32⟩
  | .hbm, ⟨7, _⟩ => ⟨S1024x9792, .f32⟩
  | .hbm, ⟨8, _⟩ => ⟨S1024x64, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S2x32, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S2x32, .f32⟩
  | .hbm, ⟨22, _⟩ => ⟨S2x32, .f32⟩
  | .hbm, ⟨23, _⟩ => ⟨S2x32, .f32⟩
  | .hbm, ⟨24, _⟩ => ⟨S1x64, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S1024, .f32⟩
  | .hbm, ⟨29, _⟩ => ⟨S1x1024, .f32⟩
  | .hbm, ⟨30, _⟩ => ⟨S4x8448x1024, .bf16⟩
  | .hbm, ⟨31, _⟩ => ⟨S4x8448x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x3072, .f32⟩
  | .local _ .vmem, ⟨5, _⟩ => ⟨S1x1x3072, .f32⟩
  | .local _ .vmem, ⟨6, _⟩ => ⟨S1x1024, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S1x128, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x128, .f32⟩
  | .local _ .vmem, ⟨14, _⟩ => ⟨S1x256x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== NormRefIdeal.lean ====
abbrev S4x8192x1024 : Shape := ⟨3, ![4, 8192, 1024]⟩
abbrev S4x256x1024 : Shape := ⟨3, ![4, 256, 1024]⟩
abbrev S16x1x3072 : Shape := ⟨3, ![16, 1, 3072]⟩
abbrev S1x1024 : Shape := ⟨2, ![1, 1024]⟩
abbrev S1x1024x9792 : Shape := ⟨3, ![1, 1024, 9792]⟩
abbrev S1x2x32 : Shape := ⟨3, ![1, 2, 32]⟩
abbrev S4x1x3072 : Shape := ⟨3, ![4, 1, 3072]⟩
abbrev S4x1x1024 : Shape := ⟨3, ![4, 1, 1024]⟩
abbrev S1x1x3072 : Shape := ⟨3, ![1, 1, 3072]⟩
abbrev S1x3072 : Shape := ⟨2, ![1, 3072]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8448x1024 : Shape := ⟨3, ![4, 8448, 1024]⟩
abbrev S1024x9792 : Shape := ⟨2, ![1024, 9792]⟩
abbrev S1024x64 : Shape := ⟨2, ![1024, 64]⟩
abbrev S4x8448x64 : Shape := ⟨3, ![4, 8448, 64]⟩
abbrev S4x8448x2x32 : Shape := ⟨4, ![4, 8448, 2, 32]⟩
abbrev S2x32 : Shape := ⟨2, ![2, 32]⟩
abbrev S1x1x2x32 : Shape := ⟨4, ![1, 1, 2, 32]⟩
abbrev S4x8448x128 : Shape := ⟨3, ![4, 8448, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S16x1x3072, .f32⟩
  | .hbm, ⟨3, _⟩ => ⟨S1x1024, .f32⟩
  | .hbm, ⟨4, _⟩ => ⟨S1x1024x9792, .f32⟩
  | .hbm, ⟨5, _⟩ => ⟨S1x2x32, .f32⟩
  | .hbm, ⟨6, _⟩ => ⟨S1x2x32, .f32⟩
  | .hbm, ⟨7, _⟩ => ⟨S4x1x3072, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1x1x3072, .f32⟩
  | .hbm, ⟨12, _⟩ => ⟨S1x3072, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1024, .f32⟩
  | .hbm, ⟨41, _⟩ => ⟨S4x256x1024, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S1x1x1024, .f32⟩
  | .hbm, ⟨64, _⟩ => ⟨S4x256x1024, .f32⟩
  | .hbm, ⟨65, _⟩ => ⟨S4x256x1024, .f32⟩
  | .hbm, ⟨66, _⟩ => ⟨S4x8448x1024, .f32⟩
  | .hbm, ⟨67, _⟩ => ⟨S1024x9792, .f32⟩
  | .hbm, ⟨68, _⟩ => ⟨S1024x64, .f32⟩
  | .hbm, ⟨69, _⟩ => ⟨S4x8448x64, .f32⟩
  | .hbm, ⟨70, _⟩ => ⟨S4x8448x2x32, .f32⟩
  | .hbm, ⟨71, _⟩ => ⟨S2x32, .f32⟩
  | .hbm, ⟨72, _⟩ => ⟨S1x1x2x32, .f32⟩
  | .hbm, ⟨73, _⟩ => ⟨S4x8448x2x32, .f32⟩
  | .hbm, ⟨74, _⟩ => ⟨S4x8448x2x32, .f32⟩
  | .hbm, ⟨75, _⟩ => ⟨S_, .f32⟩
  | .hbm, ⟨76, _⟩ => ⟨S4x8448x2x32, .f32⟩
  | .hbm, ⟨77, _⟩ => ⟨S4x8448x2x32, .f32⟩
  | .hbm, ⟨78, _⟩ => ⟨S4x8448x2x32, .f32⟩
  | .hbm, ⟨79, _⟩ => ⟨S4x8448x2x32, .f32⟩
  | .hbm, ⟨80, _⟩ => ⟨S4x8448x2x32, .i1⟩
  | .hbm, ⟨81, _⟩ => ⟨S4x8448x2x32, .f32⟩
  | .hbm, ⟨82, _⟩ => ⟨S4x8448x2x32, .f32⟩
  | .hbm, ⟨83, _⟩ => ⟨S4x8448x2x32, .f32⟩
  | .hbm, ⟨84, _⟩ => ⟨S4x8448x2x32, .f32⟩
  | .hbm, ⟨85, _⟩ => ⟨S4x8448x2x32, .f32⟩
  | .hbm, ⟨86, _⟩ => ⟨S4x8448x2x32, .f32⟩
  | .hbm, ⟨87, _⟩ => ⟨S4x8448x2x32, .f32⟩
  | .hbm, ⟨88, _⟩ => ⟨S4x8448x2x32, .f32⟩
  | .hbm, ⟨89, _⟩ => ⟨S2x32, .f32⟩
  | .hbm, ⟨90, _⟩ => ⟨S2x32, .f32⟩
  | .hbm, ⟨91, _⟩ => ⟨S2x32, .f32⟩
  | .hbm, ⟨92, _⟩ => ⟨S1x1x2x32, .f32⟩
  | .hbm, ⟨93, _⟩ => ⟨S4x8448x2x32, .f32⟩
  | .hbm, ⟨94, _⟩ => ⟨S4x8448x2x32, .f32⟩
  | .hbm, ⟨95, _⟩ => ⟨S4x8448x1024, .bf16⟩
  | .hbm, ⟨96, _⟩ => ⟨S4x8448x64, .f32⟩
  | .hbm, ⟨97, _⟩ => ⟨S4x8448x64, .f32⟩
  | .hbm, ⟨98, _⟩ => ⟨S4x8448x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Proof.AttnFrame.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The attention call's frame: what one run of the body leaves in the result block, on either side
of its branch, and the launch over the whole grid. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body loads and stores -/

abbrev rQ : Rect S1x4x1024x64 := Rect.unit (s := S1x4x1024x64) ![0, 0, 0, 0] S1x4x1024x64.size inb_S1x4x1024x64_S1x4x1024x64_0_0_0_0
abbrev rG : Rect S1x128 := Rect.unit (s := S1x128) ![0, 0] S1x128.size inb_S1x128_S1x128_0_0
abbrev rO : Rect S1x1024x256 := Rect.unit (s := S1x1024x256) ![0, 0, 0] S1x1024x256.size inb_S1x1024x256_S1x1024x256_0_0_0

/-- The keys of tile `k`: 512 rows from row `512 k`. -/
abbrev kTile (x1 : Vec F S1x1x8448x64 .bf16) (k : Fin k0_t1_loop.trips) : Vec F S1x1x512x64 .bf16 :=
  View.ld x1 (Rect.unit (s := S1x1x8448x64) (k0_off1 k) S1x1x512x64.size (k0_off1_inb k))

/-- The values of tile `k`, one column per key: 512 columns from column `512 k`. -/
abbrev vTile (x2 : Vec F S1x1x80x8448 .bf16) (k : Fin k0_t1_loop.trips) : Vec F S1x1x80x512 .bf16 :=
  View.ld x2 (Rect.unit (s := S1x1x80x8448) (k0_off2 k) S1x1x80x512.size (k0_off2_inb k))

/-- The last 256 keys. -/
abbrev kLast (x1 : Vec F S1x1x8448x64 .bf16) : Vec F S1x1x256x64 .bf16 :=
  View.ld x1 (Rect.unit (s := S1x1x8448x64) ![0, 0, 8192, 0] S1x1x256x64.size inb_S1x1x8448x64_S1x1x256x64_0_0_8192_0)

/-- The last 256 values. -/
abbrev vLast (x2 : Vec F S1x1x80x8448 .bf16) : Vec F S1x1x80x256 .bf16 :=
  View.ld x2 (Rect.unit (s := S1x1x80x8448) ![0, 0, 0, 8192] S1x1x80x256.size inb_S1x1x80x8448_S1x1x80x256_0_0_0_8192)

/-- The body's branch: whether the bound made of the two gains is at most the literal. -/
def small (x3 : Vec F S1x128 .f32) (x4 : Vec F S1x128 .f32) : BitVec 1 :=
  Scalar.cmpf .ole (k0_pay2 (View.ld x3 rG) (View.ld x3 rG) (View.ld x4 rG) (View.ld x4 rG)) (Scalar.ofBits .f32 0x460D0400#32)

/-- The running maximum and the running sums before tile `k`, on the branch that keeps them. -/
def online (q : Vec F S1x4x1024x64 .bf16) (x1 : Vec F S1x1x8448x64 .bf16) (x2 : Vec F S1x1x80x8448 .bf16) :
    ℕ → FVec F S1x4096 .f32 × FVec F S80x4096 .f32
  | 0 => (k0_pay4, k0_pay5)
  | k + 1 =>
    if h : k < k0_t1_loop.trips then
      (k0_pay7 q (online q x1 x2 k).1 (kTile x1 ⟨k, h⟩),
        k0_pay8 q (online q x1 x2 k).1 (online q x1 x2 k).2 (kTile x1 ⟨k, h⟩) (vTile x2 ⟨k, h⟩))
    else online q x1 x2 k

/-- What the branch with the running maximum stores. -/
def bigOut (q : Vec F S1x4x1024x64 .bf16) (x1 : Vec F S1x1x8448x64 .bf16) (x2 : Vec F S1x1x80x8448 .bf16) : FVec F S1x1024x256 .bf16 :=
  k0_pay9 q (online q x1 x2 k0_t1_loop.trips).1 (online q x1 x2 k0_t1_loop.trips).2 (kLast x1) (vLast x2)

/-- One tile of 512 keys added to the sums, on the branch without a running maximum. -/
def plainStep (q : Vec F S1x4x1024x64 .bf16) (kt : Vec F S1x1x512x64 .bf16) (vt : Vec F S1x1x80x512 .bf16) (acc : FVec F S80x4096 .f32) :
    FVec F S80x4096 .f32 :=
  addf acc (matmul dot_S80x512_S512x4096_S80x4096_1_0_0_1_n_n none (shapeCast S80x512 vt shapeCasts_S1x1x80x512_S80x512)
    (truncf .bf16 (exp2 (k0_pay6 q kt)) bitsLt_bf16_f32) (constant S80x4096 .f32 0x00000000#32))

/-- The last 256 keys added to the sums. -/
def plainLast (q : Vec F S1x4x1024x64 .bf16) (kt : Vec F S1x1x256x64 .bf16) (vt : Vec F S1x1x80x256 .bf16) (acc : FVec F S80x4096 .f32) :
    FVec F S80x4096 .f32 :=
  addf acc (matmul dot_S80x256_S256x4096_S80x4096_1_0_0_1_n_n none (shapeCast S80x256 vt shapeCasts_S1x1x80x256_S80x256)
    (truncf .bf16 (exp2 (matmul dot_S256x64_S4096x64_S256x4096_1_1_0_0_n_n none (shapeCast S256x64 kt shapeCasts_S1x1x256x64_S256x64) (k0_pay1 q)
      (constant S256x4096 .f32 0x00000000#32))) bitsLt_bf16_f32) (constant S80x4096 .f32 0x00000000#32))

/-- The sums divided by the row of weights, laid out as the result block. -/
def finish (acc : FVec F S80x4096 .f32) : FVec F S1x1024x256 .bf16 :=
  have d : FVec F S64x4096 .f32 := divf (extractStridedSlice S64x4096 ![0, 0] acc slices_S80x4096_o0_0_S64x4096)
    (broadcastTo S64x4096 (extractStridedSlice S1x4096 ![64, 0] acc slices_S80x4096_o64_0_S1x4096) broadcasts_S1x4096_S64x4096)
  have d0 : FVec F S64x1024 .f32 := extractStridedSlice S64x1024 ![0, 0] d slices_S64x4096_o0_0_S64x1024
  have d1 : FVec F S64x1024 .f32 := extractStridedSlice S64x1024 ![0, 1024] d slices_S64x4096_o0_1024_S64x1024
  have d2 : FVec F S64x1024 .f32 := extractStridedSlice S64x1024 ![0, 2048] d slices_S64x4096_o0_2048_S64x1024
  have d3 : FVec F S64x1024 .f32 := extractStridedSlice S64x1024 ![0, 3072] d slices_S64x4096_o0_3072_S64x1024
  have e : FVec F S256x1024 .f32 := concatenate S256x1024 0 [⟨S64x1024, d0⟩, ⟨S64x1024, d1⟩, ⟨S64x1024, d2⟩, ⟨S64x1024, d3⟩] concatenates_S64x1024_S64x1024_S64x1024_S64x1024_S256x1024_d0
  shapeCast S1x1024x256 (truncf .bf16 (transpose S1024x256 [1, 0] e transposes_S256x1024_p1_0_S1024x256) bitsLt_bf16_f32) shapeCasts_S1024x256_S1x1024x256

/-- The keys of the tile that starts at a written-out row. -/
abbrev kAt (x1 : Vec F S1x1x8448x64 .bf16) (o : ℕ) (h : ∀ a, (![0, 0, o, 0] : Fin 4 → ℕ) a + S1x1x512x64.size a ≤ S1x1x8448x64.size a) : Vec F S1x1x512x64 .bf16 :=
  View.ld x1 (Rect.unit (s := S1x1x8448x64) ![0, 0, o, 0] S1x1x512x64.size h)

/-- The values of the tile that starts at a written-out column. -/
abbrev vAt (x2 : Vec F S1x1x80x8448 .bf16) (o : ℕ) (h : ∀ a, (![0, 0, 0, o] : Fin 4 → ℕ) a + S1x1x80x512.size a ≤ S1x1x80x8448.size a) : Vec F S1x1x80x512 .bf16 :=
  View.ld x2 (Rect.unit (s := S1x1x80x8448) ![0, 0, 0, o] S1x1x80x512.size h)

/-- The sums after the sixteen tiles of 512 keys, on the branch without a running maximum. -/
def plainAcc (q : Vec F S1x4x1024x64 .bf16) (x1 : Vec F S1x1x8448x64 .bf16) (x2 : Vec F S1x1x80x8448 .bf16) : FVec F S80x4096 .f32 :=
  have a0 : FVec F S80x4096 .f32 := plainStep q (kAt x1 0 inb_S1x1x8448x64_S1x1x512x64_0_0_0_0) (vAt x2 0 inb_S1x1x80x8448_S1x1x80x512_0_0_0_0) k0_pay5
  have a1 : FVec F S80x4096 .f32 := plainStep q (kAt x1 512 inb_S1x1x8448x64_S1x1x512x64_0_0_512_0) (vAt x2 512 inb_S1x1x80x8448_S1x1x80x512_0_0_0_512) a0
  have a2 : FVec F S80x4096 .f32 := plainStep q (kAt x1 1024 inb_S1x1x8448x64_S1x1x512x64_0_0_1024_0) (vAt x2 1024 inb_S1x1x80x8448_S1x1x80x512_0_0_0_1024) a1
  have a3 : FVec F S80x4096 .f32 := plainStep q (kAt x1 1536 inb_S1x1x8448x64_S1x1x512x64_0_0_1536_0) (vAt x2 1536 inb_S1x1x80x8448_S1x1x80x512_0_0_0_1536) a2
  have a4 : FVec F S80x4096 .f32 := plainStep q (kAt x1 2048 inb_S1x1x8448x64_S1x1x512x64_0_0_2048_0) (vAt x2 2048 inb_S1x1x80x8448_S1x1x80x512_0_0_0_2048) a3
  have a5 : FVec F S80x4096 .f32 := plainStep q (kAt x1 2560 inb_S1x1x8448x64_S1x1x512x64_0_0_2560_0) (vAt x2 2560 inb_S1x1x80x8448_S1x1x80x512_0_0_0_2560) a4
  have a6 : FVec F S80x4096 .f32 := plainStep q (kAt x1 3072 inb_S1x1x8448x64_S1x1x512x64_0_0_3072_0) (vAt x2 3072 inb_S1x1x80x8448_S1x1x80x512_0_0_0_3072) a5
  have a7 : FVec F S80x4096 .f32 := plainStep q (kAt x1 3584 inb_S1x1x8448x64_S1x1x512x64_0_0_3584_0) (vAt x2 3584 inb_S1x1x80x8448_S1x1x80x512_0_0_0_3584) a6
  have a8 : FVec F S80x4096 .f32 := plainStep q (kAt x1 4096 inb_S1x1x8448x64_S1x1x512x64_0_0_4096_0) (vAt x2 4096 inb_S1x1x80x8448_S1x1x80x512_0_0_0_4096) a7
  have a9 : FVec F S80x4096 .f32 := plainStep q (kAt x1 4608 inb_S1x1x8448x64_S1x1x512x64_0_0_4608_0) (vAt x2 4608 inb_S1x1x80x8448_S1x1x80x512_0_0_0_4608) a8
  have a10 : FVec F S80x4096 .f32 := plainStep q (kAt x1 5120 inb_S1x1x8448x64_S1x1x512x64_0_0_5120_0) (vAt x2 5120 inb_S1x1x80x8448_S1x1x80x512_0_0_0_5120) a9
  have a11 : FVec F S80x4096 .f32 := plainStep q (kAt x1 5632 inb_S1x1x8448x64_S1x1x512x64_0_0_5632_0) (vAt x2 5632 inb_S1x1x80x8448_S1x1x80x512_0_0_0_5632) a10
  have a12 : FVec F S80x4096 .f32 := plainStep q (kAt x1 6144 inb_S1x1x8448x64_S1x1x512x64_0_0_6144_0) (vAt x2 6144 inb_S1x1x80x8448_S1x1x80x512_0_0_0_6144) a11
  have a13 : FVec F S80x4096 .f32 := plainStep q (kAt x1 6656 inb_S1x1x8448x64_S1x1x512x64_0_0_6656_0) (vAt x2 6656 inb_S1x1x80x8448_S1x1x80x512_0_0_0_6656) a12
  have a14 : FVec F S80x4096 .f32 := plainStep q (kAt x1 7168 inb_S1x1x8448x64_S1x1x512x64_0_0_7168_0) (vAt x2 7168 inb_S1x1x80x8448_S1x1x80x512_0_0_0_7168) a13
  plainStep q (kAt x1 7680 inb_S1x1x8448x64_S1x1x512x64_0_0_7680_0) (vAt x2 7680 inb_S1x1x80x8448_S1x1x80x512_0_0_0_7680) a14

/-- What the branch without a running maximum stores. -/
def smallOut (q : Vec F S1x4x1024x64 .bf16) (x1 : Vec F S1x1x8448x64 .bf16) (x2 : Vec F S1x1x80x8448 .bf16) : FVec F S1x1024x256 .bf16 :=
  finish (plainLast q (kLast x1) (vLast x2) (plainAcc q x1 x2))

/-- The result block after the body, from the blocks it reads. -/
def outBlock (x0 : Vec F S1x4x1024x64 .bf16) (x1 : Vec F S1x1x8448x64 .bf16) (x2 : Vec F S1x1x80x8448 .bf16) (x3 x4 : Vec F S1x128 .f32) : Vec F S1x1024x256 .bf16 :=
  if small x3 x4 = 1#1 then View.canon [⟨rO, smallOut (View.ld x0 rQ) x1 x2⟩] else View.canon [⟨rO, bigOut (View.ld x0 rQ) x1 x2⟩]

/-- The one store covers the block. -/
theorem cover (p0 : Vec F S1x1024x256 .bf16) (y : S1x1024x256.Idx) :
    ∃ pc ∈ ([⟨rO, p0⟩] : List (View.Piece (Elt F) S1x1024x256 .bf16)), y ∈ pc.1.set :=
  View.cover_of_tiled [⟨rO, p0⟩] S1x1024x256.size (by rfl) y

/-! ## The loop -/

/-- What the generated invariant carries is `online`: each trip yields the two step values. -/
theorem st_eq_online (𝒱 : Variants) (c : Dev nD) (bd : Option 𝒱.V) (i : grid0.Coords) (arg3 : Memref sig .tc .vmem S1x4x1024x64 .bf16) (harg3 : arg3.IsWhole) (arg4 : Memref sig .tc .vmem S1x1x8448x64 .bf16) (harg4 : arg4.IsWhole) (arg5 : Memref sig .tc .vmem S1x1x80x8448 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x256 .bf16) (harg8 : arg8.IsWhole) (q : Vec F S1x4x1024x64 .bf16)
    (f1 : BufTy.Contents (Elt F) arg4.view.ty) (f2 : BufTy.Contents (Elt F) arg5.view.ty) (k : ℕ) (hk : k ≤ k0_t1_loop.trips) :
    st_k0_t1 (F := F) 𝒱 c bd i arg3 harg3 arg4 harg4 arg5 harg5 arg6 harg6 arg7 harg7 arg8 harg8 q f1 f2 (k0_pay4, k0_pay5) k
      = online q (arg4.view.read (Elt F) f1) (arg5.view.read (Elt F) f2) k := by
  induction k with
  | zero => rfl
  | succ k ih =>
    have h : k < k0_t1_loop.trips := hk
    refine (st_k0_t1_succ (F := F) 𝒱 c bd i arg3 harg3 arg4 harg4 arg5 harg5 arg6 harg6 arg7 harg7 arg8 harg8 q f1 f2 (k0_pay4, k0_pay5) ⟨k, h⟩).trans ?_
    rw [show (⟨k, h⟩ : Fin k0_t1_loop.trips).val = k from rfl, ih h.le]
    rw [online, dif_pos h]
    unfold tripR_k0_t1 trip_k0_t1
    rfl

/-! ## The body's triple -/

theorem ne_zero_iff (b : BitVec 1) : Scalar.cmpi .ne (Scalar.extui b : BitVec 32) 0#32 = 1#1 ↔ b = 1#1 := by
  rcases BitVec.eq_zero_or_eq_one b with h | h <;> subst h <;> decide

theorem not_ne_zero_iff (b : BitVec 1) : Scalar.cmpi .ne (Scalar.extui (Scalar.xori b 1#1) : BitVec 32) 0#32 = 1#1 ↔ ¬ b = 1#1 := by
  rcases BitVec.eq_zero_or_eq_one b with h | h <;> subst h <;> decide

set_option maxHeartbeats 4000000 in
theorem sound_kernel (c : Dev nD) (E : Set ℕ) (i : grid0.Coords) (arg3 : Memref sig .tc .vmem S1x4x1024x64 .bf16) (harg3 : arg3.IsWhole) (arg4 : Memref sig .tc .vmem S1x1x8448x64 .bf16) (harg4 : arg4.IsWhole) (arg5 : Memref sig .tc .vmem S1x1x80x8448 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x256 .bf16) (harg8 : arg8.IsWhole)
    (x0 : Vec F S1x4x1024x64 .bf16) (x1 : Vec F S1x1x8448x64 .bf16) (x2 : Vec F S1x1x80x8448 .bf16) (x3 : Vec F S1x128 .f32) (x4 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlock x0 x1 x2 x3 x4)) -∗ K ⟨⟩))
      ⊢ wp frame (wpE (defs₀ (F := F)) Variants.none c none) E (cc0_gqa_attention i arg3 harg3 arg4 harg4 arg5 harg5 arg6 harg6 arg7 harg7 arg8 harg8) K := by
  simp only [cc0_gqa_attention_eq_skeleton]; unfold cc0_gqa_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  by_cases hs : small (arg6.view.read (Elt F) f3) (arg7.view.read (Elt F) f4) = 1#1
  · have h19 : sound_kernel.sl.v19 c arg6 arg7 f3 f4 = 1#1 := (ne_zero_iff _).mpr hs
    have h22 : ¬ sound_kernel.sl.v22 c arg6 arg7 f3 f4 = 1#1 := fun h => (not_ne_zero_iff _).mp h hs
    rw [dif_pos h19, if_neg h22]
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [outBlock, if_pos hs]
    exact View.read_writes_eq_canon _ _ _ (cover _)
  · have h19 : ¬ sound_kernel.sl.v19 c arg6 arg7 f3 f4 = 1#1 := fun h => hs ((ne_zero_iff _).mp h)
    have h22 : sound_kernel.sl.v22 c arg6 arg7 f3 f4 = 1#1 := (not_ne_zero_iff _).mpr hs
    rw [dif_neg h19, if_pos h22]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    rw [outBlock, if_neg hs, bigOut, ← st_eq_online Variants.none c none i arg3 harg3 arg4 harg4 arg5 harg5 arg6 harg6 arg7 harg7 arg8 harg8 _ f1 f2 _ le_rfl]
    exact View.read_writes_eq_canon _ _ _ (cover _)

/-! ## The pipeline's proof data -/

variable (m : (ℓ : Loc nD τ sig) → Buf (Elt F) ℓ) (ρ : Dev nD → PrngReg)

/-- The arrays as the call finds them, each input block kept, the result block at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution terminates with the arrays at the proof data's values and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Frames.lean ====
module

public import proofs.«01_k».proof.Defs
public import proofs.«01_k».proof.Proof.AttnFrame
public import proofs.«01_k».proof.Proof.AttnFrameBits
public import proofs.«01_k».proof.Proof.Gen.ReferenceIdeal
public import proofs.«01_k».proof.Proof.Gen.InProj.Frame
public import proofs.«01_k».proof.Proof.Gen.InProjIdeal.Frame
public import proofs.«01_k».proof.Proof.Gen.InProjRefIdeal
public import proofs.«01_k».proof.Proof.Gen.Merge.Frame
public import proofs.«01_k».proof.Proof.Gen.MergeIdeal.Frame
public import proofs.«01_k».proof.Proof.Gen.MergeRefIdeal
public import proofs.«01_k».proof.Proof.Gen.Pre_finite_scores
public import proofs.«01_k».proof.Proof.Gen.Pre_finite_weights
public import proofs.«01_k».proof.Proof.Gen.Mod.Frame
public import proofs.«01_k».proof.Proof.Gen.ModIdeal.Frame
public import proofs.«01_k».proof.Proof.Gen.ModRefIdeal
public import proofs.«01_k».proof.Proof.Gen.Conv.Frame
public import proofs.«01_k».proof.Proof.Gen.ConvIdeal.Frame
public import proofs.«01_k».proof.Proof.Gen.ConvRefIdeal
public import proofs.«01_k».proof.Proof.Gen.Pre_finite_steps
public import proofs.«01_k».proof.Proof.Gen.Norm.Frame
public import proofs.«01_k».proof.Proof.Gen.NormIdeal.Frame
public import proofs.«01_k».proof.Proof.Gen.NormRefIdeal
public import Idealize.ShloMosaic.Lib.Claim
public import Idealize.ShloMosaic.Lib.Quiescent

/-! Every program runs, leaves its arguments as they were and every counter at zero. -/

@[expose] public section

set_option maxRecDepth 16384

noncomputable section

namespace Cert.FrameClaims

open Idealize.ShloMosaic Idealize.SL.Sem

theorem attn : Cert.quiescent_Kernel := fun m ρ _ => Cert.Kernel.Attn.frame_main m ρ
theorem attnIdeal : Cert.quiescent_KernelIdeal := fun m ρ _ => Cert.KernelIdeal.Attn.frame_main m ρ
theorem attnIdealPre : Cert.quiescent_KernelIdeal_pre_finite_scores := fun m ρ _ => Cert.KernelIdeal.Attn.frame_main m ρ
set_option maxHeartbeats 1600000 in
theorem attnRef : Cert.quiescent_ReferenceIdeal := by
  intro m g _; hlo_run <;> first | exact fun _ => by simp | (refine sem_eq_zero_of_no_sems ?_ _; decide)
theorem attnRefPre : Cert.quiescent_ReferenceIdeal_pre_finite_scores := fun m ρ _ => attnRef m ρ trivial
theorem inProj : Cert.quiescent_InProj := fun m ρ _ => Cert.InProj.Gen.frame m ρ
theorem inProjIdeal : Cert.quiescent_InProjIdeal := fun m ρ _ => Cert.InProjIdeal.Gen.frame m ρ
theorem inProjRef : Cert.quiescent_InProjRefIdeal := by
  intro m g _; hlo_run <;> first | exact fun _ => by simp | (refine sem_eq_zero_of_no_sems ?_ _; decide)
theorem merge : Cert.quiescent_Merge := fun m ρ _ => Cert.Merge.Gen.frame m ρ
theorem mergeIdeal : Cert.quiescent_MergeIdeal := fun m ρ _ => Cert.MergeIdeal.Gen.frame m ρ
set_option maxHeartbeats 1600000 in
theorem mergeRef : Cert.quiescent_MergeRefIdeal := by
  intro m g _; hlo_run <;> first | exact fun _ => by simp | (refine sem_eq_zero_of_no_sems ?_ _; decide)
theorem mod : Cert.quiescent_Mod := fun m ρ _ => Cert.Mod.Gen.frame m ρ
theorem modIdeal : Cert.quiescent_ModIdeal := fun m ρ _ => Cert.ModIdeal.Gen.frame m ρ
theorem modIdealPre : Cert.quiescent_ModIdeal_pre_finite_weights := fun m ρ _ => Cert.ModIdeal.Gen.frame m ρ
theorem modRef : Cert.quiescent_ModRefIdeal := by
  intro m g _; hlo_run <;> first | exact fun _ => by simp | (refine sem_eq_zero_of_no_sems ?_ _; decide)
theorem modRefPre : Cert.quiescent_ModRefIdeal_pre_finite_weights := fun m ρ _ => modRef m ρ trivial
theorem conv : Cert.quiescent_Conv := fun m ρ _ => Cert.Conv.Gen.frame m ρ
theorem convIdeal : Cert.quiescent_ConvIdeal := fun m ρ _ => Cert.ConvIdeal.Gen.frame m ρ
set_option maxHeartbeats 1600000 in
theorem convRef : Cert.quiescent_ConvRefIdeal := by
  intro m g _; hlo_run <;> first | exact fun _ => by simp | (refine sem_eq_zero_of_no_sems ?_ _; decide)
theorem norm : Cert.quiescent_Norm := fun m ρ _ => Cert.Norm.Gen.frame m ρ
theorem normIdeal : Cert.quiescent_NormIdeal := fun m ρ _ => Cert.NormIdeal.Gen.frame m ρ
theorem normIdealPre : Cert.quiescent_NormIdeal_pre_finite_steps := fun m ρ _ => Cert.NormIdeal.Gen.frame m ρ
set_option maxHeartbeats 1600000 in
theorem normRef : Cert.quiescent_NormRefIdeal := by
  intro m g _; hlo_run <;> first | exact fun _ => by simp | (refine sem_eq_zero_of_no_sems ?_ _; decide)
theorem normRefPre : Cert.quiescent_NormRefIdeal_pre_finite_steps := fun m ρ _ => normRef m ρ trivial

end Cert.FrameClaims
-- ==== Proof.InProjValue.lean ====
module

public import proofs.«01_k».proof.Defs
public import proofs.«01_k».proof.Proof.Gen.InProjIdeal.Frame
public import proofs.«01_k».proof.Proof.Gen.InProjRefIdeal
public import Idealize.ShloMosaic.Lib.Pipeline.ValueKit
public import Idealize.ShloMosaic.Lib.Claim

/-! The input projection: the tiled product is the whole product, block by block. -/

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The reference's product, over the two argument arrays. -/
abbrev product (X : FVec Ideal Cert.InProjRefIdeal.S33792x1024 .bf16) (W : FVec Ideal Cert.InProjRefIdeal.S1024x9856 .bf16) :
    FVec Ideal Cert.InProjRefIdeal.S33792x9856 .bf16 :=
  truncf .bf16 (Host.dotGeneral Cert.InProjRefIdeal.dot_S33792x1024_S1024x9856_S33792x9856_1_0_0_1_n_n none
    (extf .f32 X Cert.InProjRefIdeal.Gen.bitsLt_bf16_f32) (extf .f32 W Cert.InProjRefIdeal.Gen.bitsLt_bf16_f32))
    Cert.InProjRefIdeal.Gen.bitsLt_bf16_f32

/-- The row tile and the column tile of a grid point. -/
theorem tile : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- One entry of the block a point stores is the product's entry there. -/
theorem at_entry (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, tile t]

/-- The result array after the run. -/
theorem result (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact at_entry m c t y

/-- The two programs end with equal results. -/
theorem algebraic : Cert.algebraic_InProjIdeal_InProjRefIdeal := by
  pair_intro
  · run_from Cert.InProjIdeal.Gen.run_main m g
  · hlo_run
    exact (result m c).symm

end Cert.InProjIdeal.Value
-- ==== Proof.MergeMath.lean ====
module

public import Idealize.ShloMosaic.Lib.Pipeline.ValueKit

/-! One entry of the layer's output merge, as a function of the rows it reads. -/

@[expose] public section

set_option maxRecDepth 16384

noncomputable section

open Idealize.ShloMosaic Idealize.ShloMosaic.TcCoe Idealize.SL.Sem

namespace Cert.MergeMath

/-- The scan's output with its skip term, gated. -/
def gated (yf yb d xs z : EReal) : EReal := (yf + yb + d * xs) * (z * Ideal.logistic z)

/-- A row's entry over the root of its group's mean square. -/
def normed (u : Fin 2048 → EReal) (e : Fin 2048) : EReal :=
  u e * Ideal.rsqrt (Ideal.div (∑ k : Fin 512, u ⟨e.val / 512 * 512 + k.val, by omega⟩ * u ⟨e.val / 512 * 512 + k.val, by omega⟩)
    (Ideal.ofBits .f32 0x44000000#32) + Ideal.ofBits .f32 0x358637BD#32)

/-- The norm with the group's first column named. -/
theorem normed_of (u : Fin 2048 → EReal) (e : Fin 2048) (o : Nat) (ho : ∀ k : Fin 512, o + k.val < 2048) (h : e.val / 512 * 512 = o) :
    normed u e = u e * Ideal.rsqrt (Ideal.div (∑ k : Fin 512, u ⟨o + k.val, ho k⟩ * u ⟨o + k.val, ho k⟩)
      (Ideal.ofBits .f32 0x44000000#32) + Ideal.ofBits .f32 0x358637BD#32) := by
  subst h
  rfl

/-- The scan's branch. -/
def scanBranch (u g : Fin 2048 → EReal) (w : Fin 2048 → Fin 1024 → EReal) (n : Fin 1024) : EReal := ∑ e, normed u e * g e * w e n

/-- The attention's branch. -/
def attnBranch (o a : Fin 1024 → EReal) (w : Fin 1024 → Fin 1024 → EReal) (n : Fin 1024) : EReal :=
  ∑ e, o e * (a e * Ideal.logistic (a e)) * w e n

/-- The gated sum of the two branches. -/
def blend (gs gt b b' : EReal) : EReal := Ideal.logistic gs * b + Ideal.logistic gt * b'

/-- The residual plus the gated projection of the blend. -/
def out (x gate : EReal) (mix : Fin 1024 → EReal) (w : Fin 1024 → Fin 1024 → EReal) (n : Fin 1024) : EReal := x + gate * ∑ e, mix e * w e n

end Cert.MergeMath

end
-- ==== Proof.MergeKernel.lean ====
module

public import proofs.«01_k».proof.Proof.MergeMath
public import proofs.«01_k».proof.Proof.Gen.MergeIdeal.Frame

/-! The merge kernel's values, entry by entry. -/

@[expose] public section

set_option maxRecDepth 16384

noncomputable section

open Idealize.ShloMosaic Idealize.ShloMosaic.TcCoe Idealize.SL.Sem

namespace Cert.MergeIdeal.Merge

open Cert.MergeIdeal Cert.MergeIdeal.Gen Cert.MergeMath

section Pay

variable (v0 v3 v6 v15 : FVec Ideal S1x256x2048 .bf16) (v10 : FVec Ideal S1x2048 .f32)

theorem pay2_at (r : Fin 256) (e : Fin 2048) : k0_pay2 (F := Ideal) v0 v3 v6 v10 v15 (ix2 r e)
    = gated (v3 (ix3 (0 : Fin 1) r e)) (v6 (ix3 (0 : Fin 1) r e)) (v10 (ix2 (0 : Fin 1) e)) (v0 (ix3 (0 : Fin 1) r e)) (v15 (ix3 (0 : Fin 1) r e)) := by
  pointwise [k0_pay2, gated]

theorem pay3_at (r : Fin 256) (k : Fin 512) : k0_pay3 (F := Ideal) v0 v3 v6 v10 v15 (ix2 r k)
    = normed (fun e => k0_pay2 (F := Ideal) v0 v3 v6 v10 v15 (ix2 r e)) ⟨k.val, by omega⟩ := by
  unfold k0_pay3
  generalize k0_pay2 (F := Ideal) v0 v3 v6 v10 v15 = U
  rw [normed_of _ _ 0 (by omega) (by show k.val / 512 * 512 = 0; omega)]
  simp only [Nat.zero_add]
  pointwise []

theorem pay45_at (r : Fin 256) (k : Fin 512) : (k0_pay4 (F := Ideal) v0 v3 v6 v10 v15 (ix2 r k) : EReal)
      * Ideal.rsqrt (k0_pay5 (F := Ideal) v0 v3 v6 v10 v15 (ix2 r (0 : Fin 1)) + Ideal.ofBits .f32 0x358637BD#32)
    = normed (fun e => k0_pay2 (F := Ideal) v0 v3 v6 v10 v15 (ix2 r e)) ⟨512 + k.val, by omega⟩ := by
  unfold k0_pay5 k0_pay4
  generalize k0_pay2 (F := Ideal) v0 v3 v6 v10 v15 = U
  rw [normed_of _ _ 512 (by omega) (by show (512 + k.val) / 512 * 512 = 512; omega)]
  pointwise []

end Pay

theorem pay6_at (U : FVec Ideal S256x2048 .f32) (A B : FVec Ideal S256x512 .f32) (C : FVec Ideal S256x1 .f32) (g : FVec Ideal S1x2048 .f32)
    (w : FVec Ideal S2048x1024 .bf16) (r : Fin 256) (n : Fin 1024)
    (hA : ∀ k : Fin 512, A (ix2 r k) = normed (fun e => U (ix2 r e)) ⟨k.val, by omega⟩)
    (hB : ∀ k : Fin 512, (B (ix2 r k) : EReal) * Ideal.rsqrt (C (ix2 r (0 : Fin 1)) + Ideal.ofBits .f32 0x358637BD#32) = normed (fun e => U (ix2 r e)) ⟨512 + k.val, by omega⟩) :
    k0_pay6 (F := Ideal) U A B C (Scalar.ofBits .f32 0x358637BD#32) g w (ix2 r n)
      = scanBranch (fun e => U (ix2 r e)) (fun e => g (ix2 (0 : Fin 1) e)) (fun e n => w (ix2 e n)) n := by
  pointwise [k0_pay6, scanBranch]
  refine Finset.sum_congr rfl fun e _ => ?_
  congr 2
  have he := e.isLt
  by_cases h0 : e.val < 512
  · rw [dif_pos h0]
    exact hA ⟨e.val, h0⟩
  rw [dif_neg h0]
  by_cases h1 : e.val - 512 < 512
  · have hi : (⟨512 + (e.val - 512), by omega⟩ : Fin 2048) = e := Fin.ext (by show 512 + (e.val - 512) = e.val; omega)
    rw [dif_pos h1]
    exact (hB ⟨e.val - 512, h1⟩).trans (congrArg _ hi)
  rw [dif_neg h1]
  by_cases h2 : e.val - 512 - 512 < 512
  · have hi : (⟨1024 + (e.val - 512 - 512), by omega⟩ : Fin 2048) = e := Fin.ext (by show 1024 + (e.val - 512 - 512) = e.val; omega)
    rw [dif_pos h2, normed_of _ _ 1024 (by omega) (by omega), hi]
  · have hi : (⟨1536 + (e.val - 512 - 512 - 512), by omega⟩ : Fin 2048) = e := Fin.ext (by show 1536 + (e.val - 512 - 512 - 512) = e.val; omega)
    rw [dif_neg h2, normed_of _ _ 1536 (by omega) (by omega), hi]

theorem pay1_at (S A O L : FVec Ideal S256x1024 .f32) (wa wo : FVec Ideal S1024x1024 .bf16) (gs gt : FVec Ideal S1x256x1024 .bf16)
    (md : FVec Ideal S1x1x3072 .f32) (x : FVec Ideal S1x256x1024 .f32) (r : Fin 256) (n : Fin 1024)
    (hL : ∀ e, L (ix2 r e) = Ideal.logistic (A (ix2 r e))) :
    k0_pay1 (F := Ideal) S A O L wa gs gt wo md x (ix3 (0 : Fin 1) r n)
      = out (x (ix3 (0 : Fin 1) r n)) (md (ix3 (0 : Fin 1) (0 : Fin 1) (⟨2048 + n.val, by omega⟩ : Fin 3072)))
          (fun e => blend (gs (ix3 (0 : Fin 1) r e)) (gt (ix3 (0 : Fin 1) r e)) (S (ix2 r e))
            (attnBranch (fun e => O (ix2 r e)) (fun e => A (ix2 r e)) (fun e n => wa (ix2 e n)) e)) (fun e n => wo (ix2 e n)) n := by
  pointwise [k0_pay1, out, blend, attnBranch]
  simp only [hL]

end Cert.MergeIdeal.Merge

end
-- ==== Proof.MergeBlocks.lean ====
module

public import proofs.«01_k».proof.Proof.Gen.MergeIdeal.Frame
public import Idealize.ShloMosaic.Lib.Pipeline.ValueKit

/-! Where the merge call's blocks lie in its arrays. -/

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

variable (m : (ℓ : Loc nD τ sig) → Buf (Elt Ideal) ℓ) (c : Dev nD) (t : Fin cfg0.N)

/-- The blocks of the token arrays at a grid point. -/
theorem tile : ∀ t : Fin cfg0.N, win0_0.index t = ![(grid0.coords t 0).val, 1 + (grid0.coords t 1).val, 0]
    ∧ win0_1.index t = ![(grid0.coords t 0).val, 1 + (grid0.coords t 1).val, 0]
    ∧ win0_4.index t = ![(grid0.coords t 0).val, (grid0.coords t 1).val, 0]
    ∧ win0_8.index t = ![(grid0.coords t 0).val, (grid0.coords t 1).val, 0]
    ∧ win0_9.index t = ![(grid0.coords t 0).val, 0, 0]
    ∧ win0_15.index t = ![(grid0.coords t 0).val, (grid0.coords t 1).val, 0] :=
  (by decide +kernel : ∀ t : Fin grid0.N, _)

/-- The blocks of the scan's input and the projection at a grid point. -/
theorem tile' : ∀ t : Fin cfg0.N, win0_2.index t = ![(grid0.coords t 0).val, 1 + (grid0.coords t 1).val, 0]
    ∧ win0_3.index t = ![(grid0.coords t 0).val, 1 + (grid0.coords t 1).val, 0]
    ∧ win0_5.index t = ![(grid0.coords t 0).val, 1 + (grid0.coords t 1).val, 6]
    ∧ win0_6.index t = ![(grid0.coords t 0).val, 1 + (grid0.coords t 1).val, 7]
    ∧ win0_7.index t = ![(grid0.coords t 0).val, 1 + (grid0.coords t 1).val, 8] :=
  (by decide +kernel : ∀ t : Fin grid0.N, _)

/-- The weights' blocks are whole. -/
theorem tileW : ∀ t : Fin cfg0.N, win0_10.index t = ![0, 0] ∧ win0_11.index t = ![0, 0] ∧ win0_12.index t = ![0, 0]
    ∧ win0_13.index t = ![0, 0] ∧ win0_14.index t = ![0, 0] :=
  (by decide +kernel : ∀ t : Fin grid0.N, _)

section Rows

variable (r : Fin 256) (i : Fin 4) (j : Fin 8192) (hi : i.val = (grid0.coords t 0).val) (hj : j.val = (grid0.coords t 1).val * 256 + r.val)

include hi hj

theorem yf_at (e : Fin 2048) : iblk m c 0 t (ix3 (0 : Fin 1) r e) = m ((c : Thread nD τ).loc main_arg0) (ix3 i (⟨256 + j.val, by omega⟩ : Fin 8448) e) := by
  pointwise []
  blk_point [iblk, V, tile t]

theorem yb_at (e : Fin 2048) : iblk m c 1 t (ix3 (0 : Fin 1) r e) = m ((c : Thread nD τ).loc main_arg1) (ix3 i (⟨256 + j.val, by omega⟩ : Fin 8448) e) := by
  pointwise []
  blk_point [iblk, V, tile t]

theorem xs_at (e : Fin 2048) : X0_2 m c t (ix3 (0 : Fin 1) r e) = m ((c : Thread nD τ).loc main_arg2) (ix3 i (⟨256 + j.val, by omega⟩ : Fin 8448) (⟨e.val, by omega⟩ : Fin 3072)) := by
  unfold X0_2 Pipeline.Window.fill
  rw [dif_pos (moved0_2 t _)]
  blk_point [iblk, V, tile' t]

theorem z_at (e : Fin 2048) : X0_3 m c t (ix3 (0 : Fin 1) r e) = m ((c : Thread nD τ).loc main_arg3) (ix3 i (⟨256 + j.val, by omega⟩ : Fin 8448) (⟨e.val, by omega⟩ : Fin 9856)) := by
  unfold X0_3 Pipeline.Window.fill
  rw [dif_pos (moved0_3 t _)]
  blk_point [iblk, V, tile' t]

theorem o_at (e : Fin 1024) : iblk m c 4 t (ix3 (0 : Fin 1) r e) = m ((c : Thread nD τ).loc main_arg4) (ix3 i j e) := by
  pointwise []
  blk_point [iblk, V, tile t]

theorem ga_at (e : Fin 1024) : X0_5 m c t (ix3 (0 : Fin 1) r e) = m ((c : Thread nD τ).loc main_arg3) (ix3 i (⟨256 + j.val, by omega⟩ : Fin 8448) (⟨6144 + e.val, by omega⟩ : Fin 9856)) := by
  unfold X0_5 Pipeline.Window.fill
  rw [dif_pos (moved0_5 t _)]
  blk_point [iblk, V, tile' t]

theorem gs_at (e : Fin 1024) : X0_6 m c t (ix3 (0 : Fin 1) r e) = m ((c : Thread nD τ).loc main_arg3) (ix3 i (⟨256 + j.val, by omega⟩ : Fin 8448) (⟨7168 + e.val, by omega⟩ : Fin 9856)) := by
  unfold X0_6 Pipeline.Window.fill
  rw [dif_pos (moved0_6 t _)]
  blk_point [iblk, V, tile' t]

theorem gt_at (e : Fin 1024) : X0_7 m c t (ix3 (0 : Fin 1) r e) = m ((c : Thread nD τ).loc main_arg3) (ix3 i (⟨256 + j.val, by omega⟩ : Fin 8448) (⟨8192 + e.val, by omega⟩ : Fin 9856)) := by
  unfold X0_7 Pipeline.Window.fill
  rw [dif_pos (moved0_7 t _)]
  blk_point [iblk, V, tile' t]

theorem x_at (n : Fin 1024) : iblk m c 8 t (ix3 (0 : Fin 1) r n) = m ((c : Thread nD τ).loc main_arg5) (ix3 i j n) := by
  pointwise []
  blk_point [iblk, V, tile t]

theorem emb_at (n : Fin 1024) : ((cfg0.win 15).blk t).view.emb (ix3 (0 : Fin 1) r n) = ix3 i j n := by
  blk_ext [tile t]

end Rows

theorem mod_at (i : Fin 4) (hi : i.val = (grid0.coords t 0).val) (n : Fin 3072) : iblk m c 9 t (ix3 (0 : Fin 1) (0 : Fin 1) n) = m ((c : Thread nD τ).loc main_arg6) (ix3 (⟨i.val, by omega⟩ : Fin 16) (0 : Fin 1) n) := by
  pointwise []
  blk_point [iblk, V, tile t]

theorem skip_at (e : Fin 2048) : iblk m c 10 t (ix2 (0 : Fin 1) e) = m ((c : Thread nD τ).loc main_arg7) (ix2 (0 : Fin 1) (⟨e.val / 64, by omega⟩ : Fin 32)) := by
  have h : V m c main_v3 (ix2 (0 : Fin 1) e) = m ((c : Thread nD τ).loc main_arg7) (ix2 (0 : Fin 1) (⟨e.val / 64, by omega⟩ : Fin 32)) := by
    entry_read
    pointwise []
  refine Eq.trans ?_ h
  pointwise []
  blk_point [iblk, tileW t]

theorem scale_at (e : Fin 2048) : iblk m c 11 t (ix2 (0 : Fin 1) e) = m ((c : Thread nD τ).loc main_arg8) (ix2 (0 : Fin 1) e) := by
  have h : V m c main_v5 (ix2 (0 : Fin 1) e) = m ((c : Thread nD τ).loc main_arg8) (ix2 (0 : Fin 1) e) := by
    entry_read
    pointwise []
  refine Eq.trans ?_ h
  pointwise []
  blk_point [iblk, tileW t]

theorem ws_at (e : Fin 2048) (n : Fin 1024) : iblk m c 12 t (ix2 e n) = m ((c : Thread nD τ).loc main_arg9) (ix3 (0 : Fin 1) e n) := by
  have h : V m c main_v7 (ix2 e n) = m ((c : Thread nD τ).loc main_arg9) (ix3 (0 : Fin 1) e n) := by
    entry_read
    pointwise []
  refine Eq.trans ?_ h
  pointwise []
  blk_point [iblk, tileW t]

theorem wa_at (e : Fin 1024) (n : Fin 1024) : iblk m c 13 t (ix2 e n) = m ((c : Thread nD τ).loc main_arg10) (ix3 (0 : Fin 1) e n) := by
  have h : V m c main_v9 (ix2 e n) = m ((c : Thread nD τ).loc main_arg10) (ix3 (0 : Fin 1) e n) := by
    entry_read
    pointwise []
  refine Eq.trans ?_ h
  pointwise []
  blk_point [iblk, tileW t]

theorem wo_at (e : Fin 1024) (n : Fin 1024) : iblk m c 14 t (ix2 e n) = m ((c : Thread nD τ).loc main_arg11) (ix3 (0 : Fin 1) e n) := by
  have h : V m c main_v11 (ix2 e n) = m ((c : Thread nD τ).loc main_arg11) (ix3 (0 : Fin 1) e n) := by
    entry_read
    pointwise []
  refine Eq.trans ?_ h
  pointwise []
  blk_point [iblk, tileW t]

end Cert.MergeIdeal.Merge

end
-- ==== Proof.MergeRef.lean ====
module

public import proofs.«01_k».proof.Proof.MergeMath
public import proofs.«01_k».proof.Proof.Gen.MergeRefIdeal
public import proofs.«01_k».proof.Proof.Gen.MergeRefIdeal.Run

/-! The reference's output merge, entry by entry. -/

@[expose] public section

set_option maxRecDepth 16384

noncomputable section

open Idealize.ShloMosaic Idealize.ShloMosaic.TcCoe Idealize.SL.Sem

namespace Cert.MergeRefIdeal.Merge

open Cert.MergeRefIdeal Cert.MergeRefIdeal.Gen Cert.MergeMath

section Defs

variable {F : FTy → Type} [FloatOps F]

/-- The projection's rows after the prefix. -/
def rows (P : FVec F S4x8448x9856 .bf16) : FVec F S4x8192x9856 .f32 :=
  extf .f32 (extractStridedSlice S4x8192x9856 ![0, 256, 0] P slices_S4x8448x9856_S4x8192x9856_0_256_0) bitsLt_bf16_f32

/-- The scan's two directions. -/
def both (Y Y' : FVec F S4x8448x2048 .bf16) : FVec F S4x8192x2048 .f32 :=
  addf (extf .f32 (extractStridedSlice S4x8192x2048 ![0, 256, 0] Y slices_S4x8448x2048_S4x8192x2048_0_256_0) bitsLt_bf16_f32)
    (extf .f32 (extractStridedSlice S4x8192x2048 ![0, 256, 0] Y' slices_S4x8448x2048_S4x8192x2048_0_256_0) bitsLt_bf16_f32)

/-- The skip term. -/
def skip (D : FVec F S1x32 .f32) (X : FVec F S4x8448x3072 .bf16) : FVec F S4x8192x32x64 .f32 :=
  mulf (broadcastInDim S4x8192x32x64 ![0, 1, 2, 3] bcast_S1x1x32x1_S4x8192x32x64_0_1_2_3 (broadcastInDim S1x1x32x1 ![2, 3] bcast_S32x1_S1x1x32x1_2_3 (broadcastInDim S32x1 ![0] bcast_S32_S32x1_0 (shapeCast _ D shapeCasts_S1x32_S32))))
    (shapeCast _ (extractStridedSlice S4x8192x2048 ![0, 0, 0] (extf .f32 (extractStridedSlice S4x8192x3072 ![0, 256, 0] X slices_S4x8448x3072_S4x8192x3072_0_256_0) bitsLt_bf16_f32) slices_S4x8192x3072_S4x8192x2048_0_0_0) shapeCasts_S4x8192x2048_S4x8192x32x64)

/-- The sigmoid. -/
def sigm (A : FVec F S4x8192x1024 .f32) : FVec F S4x8192x1024 .f32 :=
  Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf A)))

/-- The gate times its sigmoid. -/
def silu (Z : FVec F S4x8192x2048 .f32) : FVec F S4x8192x2048 .f32 :=
  mulf Z (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf Z))))

/-- The gated scan. -/
def gate (B : FVec F S4x8192x2048 .f32) (S : FVec F S4x8192x32x64 .f32) (Z : FVec F S4x8192x2048 .f32) : FVec F S4x8192x4x512 .f32 :=
  shapeCast _ (mulf (shapeCast _ (addf (shapeCast _ B shapeCasts_S4x8192x2048_S4x8192x32x64) S) shapeCasts_S4x8192x32x64_S4x8192x2048) (silu Z)) shapeCasts_S4x8192x2048_S4x8192x4x512

/-- The gated scan over its groups' root mean squares, scaled. -/
def norm (U : FVec F S4x8192x4x512 .f32) (G : FVec F S1x2048 .f32) : FVec F S4x8192x2048 .f32 :=
  shapeCast _ (mulf (mulf U (broadcastInDim S4x8192x4x512 ![0, 1, 2, 3] bcast_S4x8192x4x1_S4x8192x4x512_0_1_2_3 (Host.rsqrt (addf (Host.divf (broadcastInDim S4x8192x4x1 ![0, 1, 2] bcast_S4x8192x4_S4x8192x4x1_0_1_2 (Host.reduceAdd (mulf U U) (constant S_ .f32 0x00000000#32) reducesTo_S4x8192x4x512_S4x8192x4_d3 h_S_)) (broadcastInDim S4x8192x4x1 ![] bcast_S_S4x8192x4x1 (constant S_ .f32 0x44000000#32))) (broadcastInDim S4x8192x4x1 ![] bcast_S_S4x8192x4x1 (constant S_ .f32 0x358637BD#32))))))
    (broadcastInDim S4x8192x4x512 ![0, 1, 2, 3] bcast_S1x1x4x512_S4x8192x4x512_0_1_2_3 (broadcastInDim S1x1x4x512 ![2, 3] bcast_S4x512_S1x1x4x512_2_3 (shapeCast _ (shapeCast _ G shapeCasts_S1x2048_S2048) shapeCasts_S2048_S4x512)))) shapeCasts_S4x8192x4x512_S4x8192x2048

/-- The scan's branch. -/
def scan (N : FVec F S4x8192x2048 .f32) (W : FVec F S1x2048x1024 .f32) : FVec F S4x8192x1024 .f32 :=
  Host.dotGeneral dot_S4x8192x2048_S2048x1024_S4x8192x1024_2_0_01_1_n_n none N (shapeCast _ W shapeCasts_S1x2048x1024_S2048x1024)

/-- A square projection. -/
def proj (N : FVec F S4x8192x1024 .f32) (W : FVec F S1x1024x1024 .f32) : FVec F S4x8192x1024 .f32 :=
  Host.dotGeneral dot_S4x8192x1024_S1024x1024_S4x8192x1024_2_0_01_1_n_n none N (shapeCast _ W shapeCasts_S1x1024x1024_S1024x1024)

/-- The attention's branch. -/
def attn (O : FVec F S4x8192x1024 .bf16) (A : FVec F S4x8192x1024 .f32) (W : FVec F S1x1024x1024 .f32) : FVec F S4x8192x1024 .f32 :=
  proj (mulf (extf .f32 O bitsLt_bf16_f32) (mulf A (sigm A))) W

/-- The residual plus the gated projection of the two branches. -/
def fin (x : FVec F S4x8192x1024 .f32) (md : FVec F S16x1x3072 .f32) (gs gt b b' : FVec F S4x8192x1024 .f32) (W : FVec F S1x1024x1024 .f32) : FVec F S4x8192x1024 .f32 :=
  addf x (mulf (broadcastInDim S4x8192x1024 ![0, 1, 2] bcast_S4x1x1024_S4x8192x1024_0_1_2 (extractStridedSlice S4x1x1024 ![0, 0, 2048] (extractStridedSlice S4x1x3072 ![0, 0, 0] md slices_S16x1x3072_S4x1x3072_0_0_0) slices_S4x1x3072_S4x1x1024_0_0_2048))
    (proj (addf (mulf (sigm gs) b) (mulf (sigm gt) b')) W))

/-- The reference's result. -/
def merge (Y Y' : FVec F S4x8448x2048 .bf16) (X : FVec F S4x8448x3072 .bf16) (P : FVec F S4x8448x9856 .bf16) (O : FVec F S4x8192x1024 .bf16)
    (x : FVec F S4x8192x1024 .f32) (md : FVec F S16x1x3072 .f32) (D : FVec F S1x32 .f32) (G : FVec F S1x2048 .f32) (Ws : FVec F S1x2048x1024 .f32)
    (Wa Wo : FVec F S1x1024x1024 .f32) : FVec F S4x8192x1024 .f32 :=
  fin x md (extractStridedSlice S4x8192x1024 ![0, 0, 7168] (rows P) slices_S4x8192x9856_S4x8192x1024_0_0_7168)
    (extractStridedSlice S4x8192x1024 ![0, 0, 8192] (rows P) slices_S4x8192x9856_S4x8192x1024_0_0_8192)
    (scan (norm (gate (both Y Y') (skip D X) (extractStridedSlice S4x8192x2048 ![0, 0, 0] (rows P) slices_S4x8192x9856_S4x8192x2048_0_0_0)) G) Ws)
    (attn O (extractStridedSlice S4x8192x1024 ![0, 0, 6144] (rows P) slices_S4x8192x9856_S4x8192x1024_0_0_6144) Wa) Wo

open Cert.MergeRefIdeal.Value in
/-- The program's result is the staged merge. -/
theorem res_eq (m : (ℓ : Loc nD τ sig) → Buf (Elt F) ℓ) (c : Dev nD) : Cert.MergeRefIdeal.Value.res_main_v72 m c
    = merge (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) := rfl

/-- Equal arguments, equal merges. -/
theorem merge_congr {Y Z Y' Z' : FVec F S4x8448x2048 .bf16} {X X' : FVec F S4x8448x3072 .bf16} {P P' : FVec F S4x8448x9856 .bf16} {O O' : FVec F S4x8192x1024 .bf16}
    {x x' : FVec F S4x8192x1024 .f32} {md md' : FVec F S16x1x3072 .f32} {D D' : FVec F S1x32 .f32} {G G' : FVec F S1x2048 .f32} {Ws Vs : FVec F S1x2048x1024 .f32}
    {Wa Va Wo Vo : FVec F S1x1024x1024 .f32} (h0 : Y = Z) (h1 : Y' = Z') (h2 : X = X') (h3 : P = P') (h4 : O = O') (h5 : x = x') (h6 : md = md') (h7 : D = D')
    (h8 : G = G') (h9 : Ws = Vs) (h10 : Wa = Va) (h11 : Wo = Vo) :
    merge Y Y' X P O x md D G Ws Wa Wo = merge Z Z' X' P' O' x' md' D' G' Vs Va Vo := by
  subst h0 h1 h2 h3 h4 h5 h6 h7 h8 h9 h10 h11
  rfl

end Defs

theorem rows_at (P : FVec Ideal S4x8448x9856 .bf16) (i : Fin 4) (j : Fin 8192) (e : Fin 9856) :
    rows P (ix3 i j e) = P (ix3 i (⟨256 + j.val, by omega⟩ : Fin 8448) e) := by
  pointwise [rows]

theorem both_at (Y Y' : FVec Ideal S4x8448x2048 .bf16) (i : Fin 4) (j : Fin 8192) (e : Fin 2048) :
    both Y Y' (ix3 i j e) = (Y (ix3 i (⟨256 + j.val, by omega⟩ : Fin 8448) e) + Y' (ix3 i (⟨256 + j.val, by omega⟩ : Fin 8448) e) : EReal) := by
  pointwise [both]

theorem skip_at (D : FVec Ideal S1x32 .f32) (X : FVec Ideal S4x8448x3072 .bf16) (i : Fin 4) (j : Fin 8192) (h : Fin 32) (d : Fin 64) :
    skip D X (ix4 i j h d) = (D (ix2 (0 : Fin 1) h) * X (ix3 i (⟨256 + j.val, by omega⟩ : Fin 8448) (⟨h.val * 64 + d.val, by omega⟩ : Fin 3072)) : EReal) := by
  pointwise [skip]

theorem sigm_at (A : FVec Ideal S4x8192x1024 .f32) (y) : sigm A y = Ideal.logistic (A y) := by
  pointwise [sigm]
  rfl

theorem silu_at (Z : FVec Ideal S4x8192x2048 .f32) (y) : silu Z y = (Z y * Ideal.logistic (Z y) : EReal) := by
  pointwise [silu]
  rfl

theorem gate_at (B : FVec Ideal S4x8192x2048 .f32) (S : FVec Ideal S4x8192x32x64 .f32) (Z : FVec Ideal S4x8192x2048 .f32) (i : Fin 4) (j : Fin 8192) (e : Fin 2048) :
    gate B S Z (ix4 i j (⟨e.val / 512, by omega⟩ : Fin 4) (⟨e.val % 512, by omega⟩ : Fin 512))
      = ((B (ix3 i j e) + S (ix4 i j (⟨e.val / 64, by omega⟩ : Fin 32) (⟨e.val % 64, by omega⟩ : Fin 64))) * silu Z (ix3 i j e) : EReal) := by
  pointwise [gate]

theorem norm_at (U : FVec Ideal S4x8192x4x512 .f32) (G : FVec Ideal S1x2048 .f32) (i : Fin 4) (j : Fin 8192) (e : Fin 2048) :
    norm U G (ix3 i j e) = (normed (fun e => U (ix4 i j (⟨e.val / 512, by omega⟩ : Fin 4) (⟨e.val % 512, by omega⟩ : Fin 512))) e * G (ix2 (0 : Fin 1) e) : EReal) := by
  have h1 : ∀ x : Fin 512, (⟨(e.val / 512 * 512 + x.val) / 512, by omega⟩ : Fin 4) = ⟨e.val / 512, by omega⟩ := fun x => Fin.ext (by show (e.val / 512 * 512 + x.val) / 512 = e.val / 512; omega)
  have h2 : ∀ x : Fin 512, (⟨(e.val / 512 * 512 + x.val) % 512, by omega⟩ : Fin 512) = x := fun x => Fin.ext (by show (e.val / 512 * 512 + x.val) % 512 = x.val; omega)
  pointwise [norm, normed]
  simp only [h1, h2]

theorem scan_at (N : FVec Ideal S4x8192x2048 .f32) (W : FVec Ideal S1x2048x1024 .f32) (i : Fin 4) (j : Fin 8192) (n : Fin 1024) :
    scan N W (ix3 i j n) = (∑ e : Fin 2048, N (ix3 i j e) * W (ix3 (0 : Fin 1) e n) : EReal) := by
  pointwise [scan]

theorem proj_at (N : FVec Ideal S4x8192x1024 .f32) (W : FVec Ideal S1x1024x1024 .f32) (i : Fin 4) (j : Fin 8192) (n : Fin 1024) :
    proj N W (ix3 i j n) = (∑ e : Fin 1024, N (ix3 i j e) * W (ix3 (0 : Fin 1) e n) : EReal) := by
  pointwise [proj]

/-- One entry of the merge. -/
theorem merge_at (Y Y' : FVec Ideal S4x8448x2048 .bf16) (X : FVec Ideal S4x8448x3072 .bf16) (P : FVec Ideal S4x8448x9856 .bf16) (O : FVec Ideal S4x8192x1024 .bf16)
    (x : FVec Ideal S4x8192x1024 .f32) (md : FVec Ideal S16x1x3072 .f32) (D : FVec Ideal S1x32 .f32) (G : FVec Ideal S1x2048 .f32) (Ws : FVec Ideal S1x2048x1024 .f32)
    (Wa Wo : FVec Ideal S1x1024x1024 .f32) (i : Fin 4) (j : Fin 8192) (n : Fin 1024) :
    merge Y Y' X P O x md D G Ws Wa Wo (ix3 i j n)
      = out (x (ix3 i j n)) (md (ix3 (⟨i.val, by omega⟩ : Fin 16) (0 : Fin 1) (⟨2048 + n.val, by omega⟩ : Fin 3072)))
          (fun e => blend (P (ix3 i (⟨256 + j.val, by omega⟩ : Fin 8448) (⟨7168 + e.val, by omega⟩ : Fin 9856))) (P (ix3 i (⟨256 + j.val, by omega⟩ : Fin 8448) (⟨8192 + e.val, by omega⟩ : Fin 9856)))
            (scanBranch (fun e => gated (Y (ix3 i (⟨256 + j.val, by omega⟩ : Fin 8448) e)) (Y' (ix3 i (⟨256 + j.val, by omega⟩ : Fin 8448) e))
                (D (ix2 (0 : Fin 1) (⟨e.val / 64, by omega⟩ : Fin 32))) (X (ix3 i (⟨256 + j.val, by omega⟩ : Fin 8448) (⟨e.val, by omega⟩ : Fin 3072)))
                (P (ix3 i (⟨256 + j.val, by omega⟩ : Fin 8448) (⟨e.val, by omega⟩ : Fin 9856))))
              (fun e => G (ix2 (0 : Fin 1) e)) (fun e n => Ws (ix3 (0 : Fin 1) e n)) e)
            (attnBranch (fun e => O (ix3 i j e)) (fun e => P (ix3 i (⟨256 + j.val, by omega⟩ : Fin 8448) (⟨6144 + e.val, by omega⟩ : Fin 9856))) (fun e n => Wa (ix3 (0 : Fin 1) e n)) e))
          (fun e n => Wo (ix3 (0 : Fin 1) e n)) n := by
  have hx : ∀ e : Fin 2048, (⟨e.val / 64 * 64 + e.val % 64, by omega⟩ : Fin 3072) = ⟨e.val, by omega⟩ := fun e => Fin.ext (by show e.val / 64 * 64 + e.val % 64 = e.val; omega)
  pointwise [merge, fin, attn, out, blend, attnBranch, scanBranch, gated, scan_at, proj_at, norm_at, sigm_at, gate_at, silu_at, both_at, skip_at, rows_at, hx]
end Cert.MergeRefIdeal.Merge

end
-- ==== Proof.MergeValue.lean ====
module

public import proofs.«01_k».proof.Defs
public import proofs.«01_k».proof.Proof.MergeKernel
public import proofs.«01_k».proof.Proof.MergeBlocks
public import proofs.«01_k».proof.Proof.MergeRef
public import Idealize.ShloMosaic.Lib.Claim

/-! The output merge: each block the kernel writes is the reference's. -/

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen Cert.MergeMath

/-- One entry of the block a point stores, from the blocks it reads. -/
theorem block_at (yf yb xs z : FVec Ideal S1x256x2048 .bf16) (o ga gs gt : FVec Ideal S1x256x1024 .bf16) (x : FVec Ideal S1x256x1024 .f32)
    (md : FVec Ideal S1x1x3072 .f32) (d g : FVec Ideal S1x2048 .f32) (ws : FVec Ideal S2048x1024 .bf16) (wa wo : FVec Ideal S1024x1024 .bf16)
    (r : Fin 256) (n : Fin 1024) :
    k0_pay1 (F := Ideal) (k0_pay6 (k0_pay2 xs yf yb d z) (k0_pay3 xs yf yb d z) (k0_pay4 xs yf yb d z) (k0_pay5 xs yf yb d z) (Scalar.ofBits .f32 0x358637BD#32) g ws)
        (k0_pay7 ga) (k0_pay8 o) (k0_pay9 ga) wa gs gt wo md x (ix3 (0 : Fin 1) r n)
      = out (x (ix3 (0 : Fin 1) r n)) (md (ix3 (0 : Fin 1) (0 : Fin 1) (⟨2048 + n.val, by omega⟩ : Fin 3072)))
          (fun e => blend (gs (ix3 (0 : Fin 1) r e)) (gt (ix3 (0 : Fin 1) r e))
            (scanBranch (fun e => gated (yf (ix3 (0 : Fin 1) r e)) (yb (ix3 (0 : Fin 1) r e)) (d (ix2 (0 : Fin 1) e)) (xs (ix3 (0 : Fin 1) r e)) (z (ix3 (0 : Fin 1) r e)))
              (fun e => g (ix2 (0 : Fin 1) e)) (fun e n => ws (ix2 e n)) e)
            (attnBranch (fun e => o (ix3 (0 : Fin 1) r e)) (fun e => ga (ix3 (0 : Fin 1) r e)) (fun e n => wa (ix2 e n)) e)) (fun e n => wo (ix2 e n)) n := by
  have h7 : ∀ e, k0_pay7 (F := Ideal) ga (ix2 r e) = ga (ix3 (0 : Fin 1) r e) := by intro e; pointwise [k0_pay7]
  have h8 : ∀ e, k0_pay8 (F := Ideal) o (ix2 r e) = o (ix3 (0 : Fin 1) r e) := by intro e; pointwise [k0_pay8]
  have h9 : ∀ e, k0_pay9 (F := Ideal) ga (ix2 r e) = Ideal.logistic (ga (ix3 (0 : Fin 1) r e)) := by intro e; pointwise [k0_pay9, h7]
  rw [pay1_at _ _ _ _ wa wo gs gt md x r n (fun e => (h9 e).trans (congrArg _ (h7 e).symm))]
  simp only [h7, h8, pay6_at _ _ _ _ g ws r _ (pay3_at xs yf yb z d r) (pay45_at xs yf yb z d r), pay2_at]

variable (m : (ℓ : Loc nD τ sig) → Buf (Elt Ideal) ℓ) (c : Dev nD)

/-- The reference's result, over this program's arguments. -/
abbrev want : FVec Ideal S4x8192x1024 .f32 :=
  Cert.MergeRefIdeal.Merge.merge (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem out_eq (t : Fin cfg0.N) (y : S1x256x1024.Idx) : outsAt0 (F := Ideal) m c t y = want m c (((cfg0.win 15).blk t).view.emb y) := by
  obtain ⟨r, n, rfl⟩ : ∃ r n, y = ix3 (n0 := 1) (n1 := 256) (n2 := 1024) (0 : Fin 1) r n :=
    ⟨y 1, y 2, by funext a; match a with | ⟨0, _⟩ => exact Subsingleton.elim (α := Fin 1) _ _ | ⟨1, _⟩ => rfl | ⟨2, _⟩ => rfl⟩
  have ht0 : (grid0.coords t 0).val < 4 := (grid0.coords t 0).isLt
  have ht1 : (grid0.coords t 1).val < 32 := (grid0.coords t 1).isLt
  obtain ⟨i, hi⟩ : ∃ i : Fin 4, i.val = (grid0.coords t 0).val := ⟨⟨_, ht0⟩, rfl⟩
  obtain ⟨j, hj⟩ : ∃ j : Fin 8192, j.val = (grid0.coords t 1).val * 256 + r.val := ⟨⟨_, by omega⟩, rfl⟩
  rw [emb_at t r i j hi hj n, want, Cert.MergeRefIdeal.Merge.merge_at]
  unfold outsAt0
  frame_out
  refine (block_at (iblk m c 0 t) (iblk m c 1 t) (X0_2 m c t) (X0_3 m c t) (iblk m c 4 t) (X0_5 m c t) (X0_6 m c t) (X0_7 m c t) (iblk m c 8 t)
    (iblk m c 9 t) (iblk m c 10 t) (iblk m c 11 t) (iblk m c 12 t) (iblk m c 13 t) (iblk m c 14 t) r n).trans ?_
  simp only [yf_at m c t r i j hi hj, yb_at m c t r i j hi hj, xs_at m c t r i j hi hj, z_at m c t r i j hi hj, o_at m c t r i j hi hj, ga_at m c t r i j hi hj,
    gs_at m c t r i j hi hj, gt_at m c t r i j hi hj, x_at m c t r i j hi hj, mod_at m c t i hi, skip_at m c t, scale_at m c t, ws_at m c t, wa_at m c t, wo_at m c t]

/-- The result array after the run. -/
theorem result : (dats m 0 c).arrAt 15 (cfgs 0).N = want m c := by
  refine (dats m 0 c).arrAt_eq_of_covers 15 _ (by decide +kernel) fun t _ y => ?_
  blk_simp
  rw [after0_15]
  exact out_eq m c t y

set_option maxHeartbeats 2000000 in
/-- The two programs end with equal results. -/
theorem algebraic : Cert.algebraic_MergeIdeal_MergeRefIdeal := by
  pair_intro
  · run_from Cert.MergeIdeal.Gen.run_main m g
  · run_from Cert.MergeRefIdeal.Value.run m' g'
    obtain ⟨h0, h1, h2, h3, h4, h5, h6, h7, h8, h9, h10, h11⟩ := hagree c
    exact (Cert.MergeRefIdeal.Merge.res_eq m' c).trans
      ((Cert.MergeRefIdeal.Merge.merge_congr h0 h1 h2 h3 h4 h5 h6 h7 h8 h9 h10 h11).trans (result m c).symm)

end Cert.MergeIdeal.Merge

end
-- ==== Proof.AttnMath.lean ====
module

public import Mathlib.Data.EReal.Operations
public import Mathlib.Analysis.SpecialFunctions.Pow.Real
public import Idealize.ShloMosaic.PureOps.Ideal

/-! Softmax with weights in powers of two: a weighted sum whose weights are positive reals may be rescaled by a
positive real, so the quotient of the sum by the sum of the weights does not depend on the number subtracted from the
scores, nor on the base of the exponential. The values may be infinite. -/

@[expose] public section

noncomputable section

namespace Cert.AttnMath

open Idealize.ShloMosaic

/-- A nonnegative real factor passes through a sum of extended reals. -/
theorem sum_mul_coe {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- The sum of the first `n` values, value `i` weighted by `2 ^ (s i - M)`. -/
def wsum (w : ℕ → EReal) (s : ℕ → ℝ) (M : ℝ) (n : ℕ) : EReal :=
  ∑ i ∈ Finset.range n, w i * (((2 : ℝ) ^ (s i - M) : ℝ) : EReal)

theorem wsum_zero (w : ℕ → EReal) (s : ℕ → ℝ) (M : ℝ) : wsum w s M 0 = 0 := by simp [wsum]

/-- Another number subtracted is one factor on the whole sum. -/
theorem wsum_shift (w : ℕ → EReal) (s : ℕ → ℝ) (M M' : ℝ) (n : ℕ) :
    (((2 : ℝ) ^ (M - M') : ℝ) : EReal) * wsum w s M n = wsum w s M' n := by
  have h0 : (0 : ℝ) ≤ (2 : ℝ) ^ (M - M') := by positivity
  rw [mul_comm, wsum, wsum, sum_mul_coe _ _ _ h0]
  refine Finset.sum_congr rfl fun i _ => ?_
  rw [mul_assoc, ← EReal.coe_mul, ← Real.rpow_add (by norm_num)]
  congr 3; ring

/-- `k` further terms. -/
theorem wsum_add (w : ℕ → EReal) (s : ℕ → ℝ) (M : ℝ) (n k : ℕ) :
    wsum w s M n + ∑ j : Fin k, w (n + j) * (((2 : ℝ) ^ (s (n + j) - M) : ℝ) : EReal) = wsum w s M (n + k) := by
  rw [wsum, wsum, Finset.sum_range_add,
    Fin.sum_univ_eq_sum_range (fun j => w (n + j) * (((2 : ℝ) ^ (s (n + j) - M) : ℝ) : EReal)) k]

/-- With all values one, the sum is a real number. -/
theorem wsum_one (w : ℕ → EReal) (s : ℕ → ℝ) (M : ℝ) (n : ℕ) (hw : ∀ i < n, w i = 1) :
    wsum w s M n = ((∑ i ∈ Finset.range n, (2 : ℝ) ^ (s i - M) : ℝ) : EReal) := by
  rw [wsum]
  have h : ∀ t : Finset ℕ, ((∑ i ∈ t, (2 : ℝ) ^ (s i - M) : ℝ) : EReal) = ∑ i ∈ t, (((2 : ℝ) ^ (s i - M) : ℝ) : EReal) := by
    intro t
    classical
    induction t using Finset.induction_on with
    | empty => simp
    | insert a t ha ih => rw [Finset.sum_insert ha, Finset.sum_insert ha, EReal.coe_add, ih]
  rw [h]
  refine Finset.sum_congr rfl fun i hi => ?_
  rw [hw i (Finset.mem_range.1 hi), one_mul]

/-- Division by a positive real is multiplication by its inverse. -/
theorem div_pos (x : EReal) (c : ℝ) (hc : 0 < c) : Ideal.div x (c : EReal) = x * ((c⁻¹ : ℝ) : EReal) := by
  rw [Ideal.div, if_neg (by exact_mod_cast hc.ne'), EReal.coe_inv]

/-- The quotient of weighted sums is the sum of the values by the softmax of the scores. -/
theorem quotient (w o : ℕ → EReal) (s : ℕ → ℝ) (M m : ℝ) (n : ℕ) (hn : 0 < n) (ho : ∀ i < n, o i = 1) :
    Ideal.div (wsum w s M n) (wsum o s M n)
      = ∑ i ∈ Finset.range n, w i * Ideal.div ((Real.exp (s i * Real.log 2 - m) : ℝ) : EReal)
          ((∑ j ∈ Finset.range n, Real.exp (s j * Real.log 2 - m) : ℝ) : EReal) := by
  have hne : (Finset.range n).Nonempty := ⟨0, Finset.mem_range.2 hn⟩
  have hZ : 0 < ∑ i ∈ Finset.range n, (2 : ℝ) ^ (s i - M) := Finset.sum_pos (fun i _ => by positivity) hne
  have hZ' : 0 < ∑ i ∈ Finset.range n, Real.exp (s i * Real.log 2 - m) := Finset.sum_pos (fun i _ => Real.exp_pos _) hne
  rw [wsum_one o s M n ho, div_pos _ _ hZ, wsum, sum_mul_coe _ _ _ (inv_nonneg.2 hZ.le)]
  have key : ∀ i, Real.exp (s i * Real.log 2 - m) = (2 : ℝ) ^ (s i - M) * Real.exp (M * Real.log 2 - m) := fun i => by
    rw [Real.rpow_def_of_pos (by norm_num), ← Real.exp_add]; congr 1; ring
  refine Finset.sum_congr rfl fun i _ => ?_
  rw [div_pos _ _ hZ', mul_assoc, ← EReal.coe_mul, ← EReal.coe_mul]
  congr 2
  simp only [key, ← Finset.sum_mul]
  have := (Real.exp_pos (M * Real.log 2 - m)).ne'
  field_simp

/-- A maximum over finitely many reals, taken from below, is below infinity. -/
theorem fold_max_ne_top {n : ℕ} (f : Fin n → EReal) (b : EReal) (hb : b ≠ ⊤) (hf : ∀ i, f i ≠ ⊤) :
    Finset.univ.fold max b f ≠ ⊤ := by
  refine ne_of_lt ((Finset.fold_max_lt ⊤).2 ⟨lt_top_iff_ne_top.2 hb, fun i _ => lt_top_iff_ne_top.2 (hf i)⟩)

/-- A maximum over a range of reals with one element or more is above minus infinity. -/
theorem fold_max_ne_bot {n : ℕ} (f : Fin n → EReal) (b : EReal) (i : Fin n) (hf : f i ≠ ⊥) :
    Finset.univ.fold max b f ≠ ⊥ := by
  refine ne_of_gt (lt_of_lt_of_le (bot_lt_iff_ne_bot.2 hf) ?_)
  exact (Finset.le_fold_max (f i)).2 (Or.inr ⟨i, Finset.mem_univ _, le_rfl⟩)

end Cert.AttnMath

end
-- ==== Proof.AttnTiles.lean ====
module

public import proofs.«01_k».proof.Proof.AttnFrame
public import proofs.«01_k».proof.Proof.AttnMath
public import Idealize.ShloMosaic.Lib.Pipeline.ValueKit

/-! The attention kernel's tiles over the extended reals: what one step adds to the sums, and the sums after all keys,
on each of its two branches. -/

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath

/-- The score of key `k` for column `n` of the block's queries. -/
def score (q : FVec Ideal S1x4x1024x64 .bf16) (x1 : FVec Ideal S1x1x8448x64 .bf16) (n : Fin 4096) (k : ℕ) : EReal :=
  if h : k < 8448 then ∑ d : Fin 64, x1 (ix4 (0 : Fin 1) (0 : Fin 1) (⟨k, h⟩ : Fin 8448) d)
    * q (ix4 (0 : Fin 1) (⟨n.val / 1024, by omega⟩ : Fin 4) (⟨n.val % 1024, by omega⟩ : Fin 1024) d) else 0

/-- Row `r` of the values, at key `k`. -/
def value (x2 : FVec Ideal S1x1x80x8448 .bf16) (r : Fin 80) (k : ℕ) : EReal :=
  if h : k < 8448 then x2 (ix4 (0 : Fin 1) (0 : Fin 1) r (⟨k, h⟩ : Fin 8448)) else 0

/-- The keys of a tile, read off the whole. -/
theorem kAt_at (x1 : FVec Ideal S1x1x8448x64 .bf16) (o : ℕ)
    (h : ∀ a, (![0, 0, o, 0] : Fin 4 → ℕ) a + S1x1x512x64.size a ≤ S1x1x8448x64.size a) (j : Fin 512) (d : Fin 64)
    (hj : o + j.val < 8448) :
    kAt (F := Ideal) x1 o h (ix4 (0 : Fin 1) (0 : Fin 1) j d) = x1 (ix4 (0 : Fin 1) (0 : Fin 1) (⟨o + j.val, hj⟩ : Fin 8448) d) := by
  unfold kAt; pointwise []; try rfl

/-- The values of a tile, read off the whole. -/
theorem vAt_at (x2 : FVec Ideal S1x1x80x8448 .bf16) (o : ℕ)
    (h : ∀ a, (![0, 0, 0, o] : Fin 4 → ℕ) a + S1x1x80x512.size a ≤ S1x1x80x8448.size a) (r : Fin 80) (j : Fin 512)
    (hj : o + j.val < 8448) :
    vAt (F := Ideal) x2 o h (ix4 (0 : Fin 1) (0 : Fin 1) r j) = x2 (ix4 (0 : Fin 1) (0 : Fin 1) r (⟨o + j.val, hj⟩ : Fin 8448)) := by
  unfold vAt; pointwise []; try rfl

theorem kLast_at (x1 : FVec Ideal S1x1x8448x64 .bf16) (j : Fin 256) (d : Fin 64) (hj : 8192 + j.val < 8448) :
    kLast (F := Ideal) x1 (ix4 (0 : Fin 1) (0 : Fin 1) j d) = x1 (ix4 (0 : Fin 1) (0 : Fin 1) (⟨8192 + j.val, hj⟩ : Fin 8448) d) := by
  unfold kLast; pointwise []; try rfl

theorem vLast_at (x2 : FVec Ideal S1x1x80x8448 .bf16) (r : Fin 80) (j : Fin 256) (hj : 8192 + j.val < 8448) :
    vLast (F := Ideal) x2 (ix4 (0 : Fin 1) (0 : Fin 1) r j) = x2 (ix4 (0 : Fin 1) (0 : Fin 1) r (⟨8192 + j.val, hj⟩ : Fin 8448)) := by
  unfold vLast; pointwise []; try rfl

/-- The product of a tile of keys and the queries is the scores. -/
theorem score_at (q : FVec Ideal S1x4x1024x64 .bf16) (x1 : FVec Ideal S1x1x8448x64 .bf16) (n : Fin 4096) (o : ℕ)
    (h : ∀ a, (![0, 0, o, 0] : Fin 4 → ℕ) a + S1x1x512x64.size a ≤ S1x1x8448x64.size a) (j : Fin 512) :
    k0_pay6 (F := Ideal) q (kAt x1 o h) (ix2 j n) = score q x1 n (o + j) := by
  have ho : o + 512 ≤ 8448 := h 2
  have hj : o + j.val < 8448 := by omega
  rw [score, dif_pos hj]
  pointwise [k0_pay6, k0_pay1]
  exact Finset.sum_congr rfl fun d _ => congrArg (· * _) (kAt_at x1 o h j d hj)

/-- The products of the last keys and the queries are the scores. -/
theorem last_score (q : FVec Ideal S1x4x1024x64 .bf16) (x1 : FVec Ideal S1x1x8448x64 .bf16) (n : Fin 4096) (j : Fin 256) :
    ∑ d : Fin 64, kLast (F := Ideal) x1 (ix4 (0 : Fin 1) (0 : Fin 1) j d)
      * q (ix4 (0 : Fin 1) (⟨n.val / 1024, by omega⟩ : Fin 4) (⟨n.val % 1024, by omega⟩ : Fin 1024) d) = score q x1 n (8192 + j) := by
  have hj : 8192 + j.val < 8448 := by omega
  rw [score, dif_pos hj]
  exact Finset.sum_congr rfl fun d _ => congrArg (· * _) (kLast_at x1 j d hj)

/-- The stored block: the sums divided by the sum of the weights, which stands in row 64. -/
theorem finish_at (acc : FVec Ideal S80x4096 .f32) (t : Fin 1024) (c : Fin 256) :
    finish (F := Ideal) acc (ix3 (0 : Fin 1) t c)
      = Ideal.div (acc (ix2 (⟨c.val % 64, by omega⟩ : Fin 80) (⟨c.val / 64 * 1024 + t.val, by omega⟩ : Fin 4096)))
          (acc (ix2 (64 : Fin 80) (⟨c.val / 64 * 1024 + t.val, by omega⟩ : Fin 4096))) := by
  pointwise [finish]
  obtain ⟨c, hc⟩ := c
  dsimp only
  by_cases h0 : c < 64
  · rw [dif_pos h0]; congr 3 <;> (apply Fin.ext; simp only; omega)
  by_cases h1 : c - 64 < 64
  · rw [dif_neg h0, dif_pos h1]; congr 3 <;> (apply Fin.ext; simp only; omega)
  by_cases h2 : c - 64 - 64 < 64
  · rw [dif_neg h0, dif_neg h1, dif_pos h2]; congr 3 <;> (apply Fin.ext; simp only; omega)
  · rw [dif_neg h0, dif_neg h1, dif_neg h2]; congr 3 <;> (apply Fin.ext; simp only; omega)

/-- One tile of 512 keys added to the sums. -/
theorem plainStep_at (q : FVec Ideal S1x4x1024x64 .bf16) (x1 : FVec Ideal S1x1x8448x64 .bf16) (x2 : FVec Ideal S1x1x80x8448 .bf16)
    (o : ℕ) (h : ∀ a, (![0, 0, o, 0] : Fin 4 → ℕ) a + S1x1x512x64.size a ≤ S1x1x8448x64.size a)
    (h' : ∀ a, (![0, 0, 0, o] : Fin 4 → ℕ) a + S1x1x80x512.size a ≤ S1x1x80x8448.size a) (acc : FVec Ideal S80x4096 .f32)
    (r : Fin 80) (n : Fin 4096) :
    plainStep (F := Ideal) q (kAt x1 o h) (vAt x2 o h') acc (ix2 r n)
      = acc (ix2 r n) + ∑ j : Fin 512, value x2 r (o + j) * Ideal.exp2 (score q x1 n (o + j)) := by
  have ho : o + 512 ≤ 8448 := h 2
  pointwise [plainStep]
  refine congrArg (_ + ·) (Finset.sum_congr rfl fun j _ => ?_)
  have hj : o + j.val < 8448 := by omega
  rw [value, dif_pos hj]
  exact congrArg₂ (· * ·) (vAt_at x2 o h' r j hj) (congrArg Ideal.exp2 (score_at q x1 n o h j))

/-- The last keys added to the sums. -/
theorem plainLast_at (q : FVec Ideal S1x4x1024x64 .bf16) (x1 : FVec Ideal S1x1x8448x64 .bf16) (x2 : FVec Ideal S1x1x80x8448 .bf16)
    (acc : FVec Ideal S80x4096 .f32) (r : Fin 80) (n : Fin 4096) :
    plainLast (F := Ideal) q (kLast x1) (vLast x2) acc (ix2 r n)
      = acc (ix2 r n) + ∑ j : Fin 256, value x2 r (8192 + j) * Ideal.exp2 (score q x1 n (8192 + j)) := by
  pointwise [plainLast, k0_pay1]
  refine congrArg (_ + ·) (Finset.sum_congr rfl fun j _ => ?_)
  have hj : 8192 + j.val < 8448 := by omega
  rw [value, dif_pos hj]
  exact congrArg₂ (· * ·) (vLast_at x2 r j hj) (congrArg Ideal.exp2 (last_score q x1 n j))

/-- A maximum reduction of numbers below infinity is below infinity. -/
theorem red_ne_top {s t : Shape} (dims : List (Fin s.rank)) (S : FVec Ideal s .f32) (h : s.Reduces dims t) (hφ : FKind.Formats .f32)
    (hacc : (0xFF800000#32 : BitVec 32) = FKind.maximumf.neutral .f32 hφ) (hS : ∀ i, S i ≠ ⊤) (j : t.Idx) :
    multiReduction .maximumf dims t S 0xFF800000#32 h hφ hacc j ≠ (⊤ : EReal) := by
  rw [multiReduction_maximumf_eq_fold]
  change Finset.fold (max : EReal → EReal → EReal) (Ideal.ofBits .f32 0xFF800000#32) S _ ≠ ⊤
  refine ne_of_lt ((Finset.fold_max_lt ⊤).2 ⟨?_, fun i _ => lt_top_iff_ne_top.2 (hS i)⟩)
  show Ideal.ofBits .f32 0xFF800000#32 < ⊤
  simp [Ideal.ofBits, Ideal.ieee]

theorem max_row (R : FVec Ideal S4096 .f32) (M : FVec Ideal S1x4096 .f32) (n : Fin 4096) :
    maximumf M (shapeCast S1x4096 R shapeCasts_S4096_S1x4096) (ix2 (0 : Fin 1) n) = max (M (ix2 (0 : Fin 1) n)) (R (ix1 n)) := by
  pointwise []

/-- The maximum of the old maxima and a tile of scores. -/
def tileMax {F : FTy → Type} [FloatOps F] (S : FVec F S512x4096 .f32) (M : FVec F S1x4096 .f32) : FVec F S1x4096 .f32 :=
  maximumf M (shapeCast S1x4096 (multiReduction .maximumf [0] S4096 S 0xFF800000#32 reduces_S512x4096_S4096 (.inl rfl) rfl)
    shapeCasts_S4096_S1x4096)

theorem tileMax_eq {F : FTy → Type} [FloatOps F] (q : Vec F S1x4x1024x64 .bf16) (M : FVec F S1x4096 .f32) (kt : Vec F S1x1x512x64 .bf16) :
    k0_pay7 q M kt = tileMax (k0_pay6 q kt) M := rfl

/-- Numbers that are finite stay finite under the maximum with a tile of finite scores. -/
theorem max_finite (q : FVec Ideal S1x4x1024x64 .bf16) (x1 : FVec Ideal S1x1x8448x64 .bf16) (o : ℕ)
    (h : ∀ a, (![0, 0, o, 0] : Fin 4 → ℕ) a + S1x1x512x64.size a ≤ S1x1x8448x64.size a) (M : FVec Ideal S1x4096 .f32) (n : Fin 4096)
    (hS : ∀ n k, score q x1 n k ≠ ⊤) (hM : M (ix2 (0 : Fin 1) n) ≠ (⊤ : EReal)) (hM' : M (ix2 (0 : Fin 1) n) ≠ (⊥ : EReal)) :
    k0_pay7 (F := Ideal) q M (kAt x1 o h) (ix2 (0 : Fin 1) n) ≠ (⊤ : EReal)
      ∧ k0_pay7 (F := Ideal) q M (kAt x1 o h) (ix2 (0 : Fin 1) n) ≠ (⊥ : EReal) := by
  have e := max_row (multiReduction .maximumf [0] S4096 (k0_pay6 (F := Ideal) q (kAt x1 o h)) 0xFF800000#32 reduces_S512x4096_S4096 (.inl rfl) rfl) M n
  have hR := red_ne_top [0] (k0_pay6 (F := Ideal) q (kAt x1 o h)) reduces_S512x4096_S4096 (.inl rfl) rfl
    (fun i => by rw [eq_ix2 i]; exact fun hh => hS (i 1) _ ((score_at q x1 (i 1) o h (i 0)).symm.trans hh)) (ix1 n)
  rw [tileMax_eq]
  unfold tileMax
  rw [e]
  exact ⟨(max_lt (lt_top_iff_ne_top.2 hM) (lt_top_iff_ne_top.2 hR)).ne, (lt_of_lt_of_le (bot_lt_iff_ne_bot.2 hM') (le_max_left _ _)).ne'⟩

/-- The new sums after a tile: the old ones rescaled, and the tile's terms. -/
theorem sums_at (q : FVec Ideal S1x4x1024x64 .bf16) (x1 : FVec Ideal S1x1x8448x64 .bf16) (x2 : FVec Ideal S1x1x80x8448 .bf16)
    (o : ℕ) (h : ∀ a, (![0, 0, o, 0] : Fin 4 → ℕ) a + S1x1x512x64.size a ≤ S1x1x8448x64.size a)
    (h' : ∀ a, (![0, 0, 0, o] : Fin 4 → ℕ) a + S1x1x80x512.size a ≤ S1x1x80x8448.size a) (M : FVec Ideal S1x4096 .f32)
    (acc : FVec Ideal S80x4096 .f32) (r : Fin 80) (n : Fin 4096) :
    k0_pay8 (F := Ideal) q M acc (kAt x1 o h) (vAt x2 o h') (ix2 r n)
      = Ideal.exp2 (M (ix2 (0 : Fin 1) n) - k0_pay7 (F := Ideal) q M (kAt x1 o h) (ix2 (0 : Fin 1) n)) * acc (ix2 r n)
        + ∑ j : Fin 512, value x2 r (o + j)
            * Ideal.exp2 (score q x1 n (o + j) - k0_pay7 (F := Ideal) q M (kAt x1 o h) (ix2 (0 : Fin 1) n)) := by
  have ho : o + 512 ≤ 8448 := h 2
  pointwise [k0_pay8]
  generalize k0_pay7 (F := Ideal) q M (kAt x1 o h) (ix2 (0 : Fin 1) n) = Z
  refine congrArg (_ + ·) (Finset.sum_congr rfl fun j _ => ?_)
  have hj : o + j.val < 8448 := by omega
  rw [value, dif_pos hj]
  exact congrArg₂ (· * ·) (vAt_at x2 o h' r j hj) (congrArg (fun z => Ideal.exp2 (z - Z)) (score_at q x1 n o h j))

/-- The products of the last keys and the queries. -/
def lastScores {F : FTy → Type} [FloatOps F] (q : Vec F S1x4x1024x64 .bf16) (kt : Vec F S1x1x256x64 .bf16) : FVec F S256x4096 .f32 :=
  matmul dot_S256x64_S4096x64_S256x4096_1_1_0_0_n_n none (shapeCast S256x64 kt shapeCasts_S1x1x256x64_S256x64) (k0_pay1 q)
    (constant S256x4096 .f32 0x00000000#32)

theorem lastScores_at (q : FVec Ideal S1x4x1024x64 .bf16) (x1 : FVec Ideal S1x1x8448x64 .bf16) (n : Fin 4096) (j : Fin 256) :
    lastScores (F := Ideal) q (kLast x1) (ix2 j n) = score q x1 n (8192 + j) := by
  refine Eq.trans ?_ (last_score q x1 n j)
  pointwise [lastScores, k0_pay1]

/-- The maximum after the last keys. -/
def lastMax {F : FTy → Type} [FloatOps F] (q : Vec F S1x4x1024x64 .bf16) (M : FVec F S1x4096 .f32) (kt : Vec F S1x1x256x64 .bf16) : FVec F S1x4096 .f32 :=
  maximumf M (shapeCast S1x4096 (multiReduction .maximumf [0] S4096 (lastScores q kt) 0xFF800000#32
    reduces_S256x4096_S4096 (.inl rfl) rfl) shapeCasts_S4096_S1x4096)

/-- The sums after the last keys. -/
def lastSums {F : FTy → Type} [FloatOps F] (q : Vec F S1x4x1024x64 .bf16) (M : FVec F S1x4096 .f32) (acc : FVec F S80x4096 .f32)
    (kt : Vec F S1x1x256x64 .bf16) (vt : Vec F S1x1x80x256 .bf16) : FVec F S80x4096 .f32 :=
  addf (mulf (broadcastTo S80x4096 (exp2 (subf M (lastMax q M kt))) broadcasts_S1x4096_S80x4096) acc)
    (matmul dot_S80x256_S256x4096_S80x4096_1_0_0_1_n_n none (shapeCast S80x256 vt shapeCasts_S1x1x80x256_S80x256)
      (truncf .bf16 (exp2 (subf (lastScores q kt)
        (broadcastTo S256x4096 (lastMax q M kt) broadcasts_S1x4096_S256x4096))) bitsLt_bf16_f32)
      (constant S80x4096 .f32 0x00000000#32))

theorem bigOut_eq {F : FTy → Type} [FloatOps F] (q : Vec F S1x4x1024x64 .bf16) (M : FVec F S1x4096 .f32) (acc : FVec F S80x4096 .f32)
    (kt : Vec F S1x1x256x64 .bf16) (vt : Vec F S1x1x80x256 .bf16) :
    k0_pay9 q M acc kt vt = finish (lastSums q M acc kt vt) := rfl

/-- The same for the last keys. -/
theorem lastMax_finite (q : FVec Ideal S1x4x1024x64 .bf16) (x1 : FVec Ideal S1x1x8448x64 .bf16) (M : FVec Ideal S1x4096 .f32) (n : Fin 4096)
    (hS : ∀ n k, score q x1 n k ≠ ⊤) (hM : M (ix2 (0 : Fin 1) n) ≠ (⊤ : EReal)) (hM' : M (ix2 (0 : Fin 1) n) ≠ (⊥ : EReal)) :
    lastMax (F := Ideal) q M (kLast x1) (ix2 (0 : Fin 1) n) ≠ (⊤ : EReal)
      ∧ lastMax (F := Ideal) q M (kLast x1) (ix2 (0 : Fin 1) n) ≠ (⊥ : EReal) := by
  have hR := red_ne_top [0] (lastScores (F := Ideal) q (kLast x1))
    reduces_S256x4096_S4096 (.inl rfl) rfl
    (fun i => by rw [eq_ix2 i]; exact fun hh => hS (i 1) _ ((lastScores_at q x1 (i 1) (i 0)).symm.trans hh)) (ix1 n)
  unfold lastMax
  rw [max_row]
  exact ⟨(max_lt (lt_top_iff_ne_top.2 hM) (lt_top_iff_ne_top.2 hR)).ne, (lt_of_lt_of_le (bot_lt_iff_ne_bot.2 hM') (le_max_left _ _)).ne'⟩

theorem lastSums_at (q : FVec Ideal S1x4x1024x64 .bf16) (x1 : FVec Ideal S1x1x8448x64 .bf16) (x2 : FVec Ideal S1x1x80x8448 .bf16)
    (M : FVec Ideal S1x4096 .f32) (acc : FVec Ideal S80x4096 .f32) (r : Fin 80) (n : Fin 4096) :
    lastSums (F := Ideal) q M acc (kLast x1) (vLast x2) (ix2 r n)
      = Ideal.exp2 (M (ix2 (0 : Fin 1) n) - lastMax (F := Ideal) q M (kLast x1) (ix2 (0 : Fin 1) n)) * acc (ix2 r n)
        + ∑ j : Fin 256, value x2 r (8192 + j)
            * Ideal.exp2 (score q x1 n (8192 + j) - lastMax (F := Ideal) q M (kLast x1) (ix2 (0 : Fin 1) n)) := by
  pointwise [lastSums]
  generalize lastMax (F := Ideal) q M (kLast x1) (ix2 (0 : Fin 1) n) = Z
  refine congrArg (_ + ·) (Finset.sum_congr rfl fun j _ => ?_)
  have hj : 8192 + j.val < 8448 := by omega
  rw [value, dif_pos hj]
  exact congrArg₂ (· * ·) (vLast_at x2 r j hj) (congrArg (fun z => Ideal.exp2 (z - Z)) (lastScores_at q x1 n j))

end Cert.KernelIdeal.Attn

end
-- ==== Proof.AttnSums.lean ====
module

public import proofs.«01_k».proof.Proof.AttnTiles

/-! The sums over all 8448 keys, on each branch of the attention kernel, when the scores are finite. -/

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath

section Plain

variable (q : FVec Ideal S1x4x1024x64 .bf16) (x1 : FVec Ideal S1x1x8448x64 .bf16) (x2 : FVec Ideal S1x1x80x8448 .bf16)
  (s : Fin 4096 → ℕ → ℝ) (hs : ∀ n k, score q x1 n k = (s n k : EReal))

include hs

theorem plain_next (o : ℕ) (h : ∀ a, (![0, 0, o, 0] : Fin 4 → ℕ) a + S1x1x512x64.size a ≤ S1x1x8448x64.size a)
    (h' : ∀ a, (![0, 0, 0, o] : Fin 4 → ℕ) a + S1x1x80x512.size a ≤ S1x1x80x8448.size a) (acc : FVec Ideal S80x4096 .f32)
    (ha : ∀ r n, acc (ix2 r n) = wsum (value x2 r) (s n) 0 o) (r : Fin 80) (n : Fin 4096) :
    plainStep (F := Ideal) q (kAt x1 o h) (vAt x2 o h') acc (ix2 r n) = wsum (value x2 r) (s n) 0 (o + 512) := by
  rw [plainStep_at, ha, ← wsum_add]
  refine congrArg (_ + ·) (Finset.sum_congr rfl fun j _ => ?_)
  rw [hs, sub_zero]; rfl

/-- The sums without a running maximum, after the sixteen tiles. -/
theorem plainAcc_at (r : Fin 80) (n : Fin 4096) : plainAcc (F := Ideal) q x1 x2 (ix2 r n) = wsum (value x2 r) (s n) 0 8192 := by
  unfold plainAcc
  iterate 16 refine plain_next q x1 x2 s hs _ _ _ _ (fun r n => ?_) r n
  rw [wsum_zero]
  show Ideal.ofBits .f32 0x00000000#32 = 0
  simp [Ideal.ofBits, Ideal.ieee]

/-- … and after the last keys. -/
theorem plain_all (r : Fin 80) (n : Fin 4096) :
    plainLast (F := Ideal) q (kLast x1) (vLast x2) (plainAcc (F := Ideal) q x1 x2) (ix2 r n) = wsum (value x2 r) (s n) 0 8448 := by
  rw [plainLast_at, plainAcc_at q x1 x2 s hs, show 8448 = 8192 + 256 from rfl, ← wsum_add]
  refine congrArg (_ + ·) (Finset.sum_congr rfl fun j _ => ?_)
  rw [hs, sub_zero]; rfl

end Plain

section Online

variable (q : FVec Ideal S1x4x1024x64 .bf16) (x1 : FVec Ideal S1x1x8448x64 .bf16) (x2 : FVec Ideal S1x1x80x8448 .bf16)
  (s : Fin 4096 → ℕ → ℝ) (hs : ∀ n k, score q x1 n k = (s n k : EReal))

theorem ld_k (k : Fin k0_t1_loop.trips) : ∃ h, kTile (F := Ideal) x1 k = kAt (F := Ideal) x1 (512 * k.val) h := by
  have key : ∀ (off : Fin 4 → ℕ) (e : off = ![0, 0, 512 * k.val, 0])
      (h : ∀ a, off a + S1x1x512x64.size a ≤ S1x1x8448x64.size a),
      ∃ h', View.ld (Val := Elt Ideal) x1 (Rect.unit (s := S1x1x8448x64) off S1x1x512x64.size h) = kAt (F := Ideal) x1 (512 * k.val) h' := by
    rintro _ rfl h; exact ⟨h, rfl⟩
  exact key _ (k0_off1_eq k) _

theorem ld_v (k : Fin k0_t1_loop.trips) : ∃ h, vTile (F := Ideal) x2 k = vAt (F := Ideal) x2 (512 * k.val) h := by
  have key : ∀ (off : Fin 4 → ℕ) (e : off = ![0, 0, 0, 512 * k.val])
      (h : ∀ a, off a + S1x1x80x512.size a ≤ S1x1x80x8448.size a),
      ∃ h', View.ld (Val := Elt Ideal) x2 (Rect.unit (s := S1x1x80x8448) off S1x1x80x512.size h) = vAt (F := Ideal) x2 (512 * k.val) h' := by
    rintro _ rfl h; exact ⟨h, rfl⟩
  exact key _ (k0_off2_eq k) _

/-- The state of the running maximum and the sums, for one column: a real maximum, and the sums weighted against it. -/
def Holds (n : Fin 4096) (N : ℕ) (M : FVec Ideal S1x4096 .f32) (acc : FVec Ideal S80x4096 .f32) : Prop :=
  ∃ μ : ℝ, M (ix2 (0 : Fin 1) n) = (μ : EReal) ∧ ∀ r, acc (ix2 r n) = wsum (value x2 r) (s n) μ N

include hs

theorem score_ne_top (n : Fin 4096) (k : ℕ) : score q x1 n k ≠ ⊤ := by rw [hs]; exact EReal.coe_ne_top _

theorem online_next (n : Fin 4096) (o : ℕ) (h : ∀ a, (![0, 0, o, 0] : Fin 4 → ℕ) a + S1x1x512x64.size a ≤ S1x1x8448x64.size a)
    (h' : ∀ a, (![0, 0, 0, o] : Fin 4 → ℕ) a + S1x1x80x512.size a ≤ S1x1x80x8448.size a) (M : FVec Ideal S1x4096 .f32)
    (acc : FVec Ideal S80x4096 .f32) (H : Holds x2 s n o M acc) :
    Holds x2 s n (o + 512) (k0_pay7 (F := Ideal) q M (kAt x1 o h)) (k0_pay8 (F := Ideal) q M acc (kAt x1 o h) (vAt x2 o h')) := by
  obtain ⟨μ, hM, ha⟩ := H
  obtain ⟨ht, hb⟩ := max_finite q x1 o h M n (score_ne_top q x1 s hs) (by rw [hM]; exact EReal.coe_ne_top _) (by rw [hM]; exact EReal.coe_ne_bot _)
  refine ⟨(k0_pay7 (F := Ideal) q M (kAt x1 o h) (ix2 (0 : Fin 1) n) : EReal).toReal, (EReal.coe_toReal ht hb).symm, fun r => ?_⟩
  have e := (EReal.coe_toReal ht hb).symm
  rw [sums_at, ha]
  generalize k0_pay7 (F := Ideal) q M (kAt x1 o h) (ix2 (0 : Fin 1) n) = Z at e
  generalize EReal.toReal Z = ν at e
  subst e
  rw [← wsum_add, ← wsum_shift (value x2 r) (s n) μ ν o, hM]
  refine congrArg₂ (· + ·) (congrArg (· * _) ?_) (Finset.sum_congr rfl fun j _ => ?_)
  · rw [← EReal.coe_sub]; rfl
  · rw [hs, ← EReal.coe_sub]; rfl

theorem online_last (n : Fin 4096) (M : FVec Ideal S1x4096 .f32) (acc : FVec Ideal S80x4096 .f32) (H : Holds x2 s n 8192 M acc) :
    ∃ μ : ℝ, ∀ r, lastSums (F := Ideal) q M acc (kLast x1) (vLast x2) (ix2 r n) = wsum (value x2 r) (s n) μ 8448 := by
  obtain ⟨μ, hM, ha⟩ := H
  obtain ⟨ht, hb⟩ := lastMax_finite q x1 M n (score_ne_top q x1 s hs) (by rw [hM]; exact EReal.coe_ne_top _) (by rw [hM]; exact EReal.coe_ne_bot _)
  refine ⟨(lastMax (F := Ideal) q M (kLast x1) (ix2 (0 : Fin 1) n) : EReal).toReal, fun r => ?_⟩
  have e := (EReal.coe_toReal ht hb).symm
  rw [lastSums_at, ha]
  generalize lastMax (F := Ideal) q M (kLast x1) (ix2 (0 : Fin 1) n) = Z at e
  generalize EReal.toReal Z = ν at e
  subst e
  rw [show 8448 = 8192 + 256 from rfl, ← wsum_add, ← wsum_shift (value x2 r) (s n) μ ν 8192, hM]
  refine congrArg₂ (· + ·) (congrArg (· * _) ?_) (Finset.sum_congr rfl fun j _ => ?_)
  · rw [← EReal.coe_sub]; rfl
  · rw [hs, ← EReal.coe_sub]; rfl

theorem online_at (n : Fin 4096) (k : ℕ) (hk : k ≤ k0_t1_loop.trips) :
    Holds x2 s n (512 * k) (online (F := Ideal) q x1 x2 k).1 (online (F := Ideal) q x1 x2 k).2 := by
  induction k with
  | zero =>
    have e : ∃ μ : ℝ, Ideal.ofBits .f32 0xF149F2CA#32 = (μ : EReal) := ⟨_, by simp [Ideal.ofBits, Ideal.ieee, -EReal.coe_mul]; rfl⟩
    obtain ⟨μ, e⟩ := e
    refine ⟨μ, e, fun r => ?_⟩
    rw [Nat.mul_zero, wsum_zero]
    show Ideal.ofBits .f32 0x00000000#32 = 0
    simp [Ideal.ofBits, Ideal.ieee]
  | succ k ih =>
    have hlt : k < k0_t1_loop.trips := hk
    obtain ⟨h, e⟩ := ld_k x1 ⟨k, hlt⟩
    obtain ⟨h', e'⟩ := ld_v x2 ⟨k, hlt⟩
    have := online_next q x1 x2 s hs n (512 * k) h h' _ _ (ih hlt.le)
    rw [online, dif_pos hlt, e, e', Nat.mul_succ]
    exact this

/-- The sums with a running maximum, after all keys. -/
theorem online_all (n : Fin 4096) : ∃ μ : ℝ, ∀ r,
    lastSums (F := Ideal) q (online (F := Ideal) q x1 x2 k0_t1_loop.trips).1 (online (F := Ideal) q x1 x2 k0_t1_loop.trips).2 (kLast x1) (vLast x2) (ix2 r n)
      = wsum (value x2 r) (s n) μ 8448 := by
  have h := online_at q x1 x2 s hs n k0_t1_loop.trips le_rfl
  have e : 512 * k0_t1_loop.trips = 8192 := by decide +kernel
  rw [e] at h
  exact online_last q x1 x2 s hs n _ _ h

end Online

/-- What either branch stores: the quotient of two weighted sums over all keys. -/
theorem block_at (q : FVec Ideal S1x4x1024x64 .bf16) (x1 : FVec Ideal S1x1x8448x64 .bf16) (x2 : FVec Ideal S1x1x80x8448 .bf16)
    (s : Fin 4096 → ℕ → ℝ) (hs : ∀ n k, score q x1 n k = (s n k : EReal)) (t : Fin 1024) (c : Fin 256) :
    (∃ μ : ℝ, smallOut (F := Ideal) q x1 x2 (ix3 (0 : Fin 1) t c)
      = Ideal.div (wsum (value x2 ⟨c.val % 64, by omega⟩) (s ⟨c.val / 64 * 1024 + t.val, by omega⟩) μ 8448)
          (wsum (value x2 64) (s ⟨c.val / 64 * 1024 + t.val, by omega⟩) μ 8448))
    ∧ (∃ μ : ℝ, bigOut (F := Ideal) q x1 x2 (ix3 (0 : Fin 1) t c)
      = Ideal.div (wsum (value x2 ⟨c.val % 64, by omega⟩) (s ⟨c.val / 64 * 1024 + t.val, by omega⟩) μ 8448)
          (wsum (value x2 64) (s ⟨c.val / 64 * 1024 + t.val, by omega⟩) μ 8448)) := by
  constructor
  · refine ⟨0, ?_⟩
    rw [smallOut, finish_at, plain_all q x1 x2 s hs, plain_all q x1 x2 s hs]
  · obtain ⟨μ, h⟩ := online_all q x1 x2 s hs ⟨c.val / 64 * 1024 + t.val, by omega⟩
    refine ⟨μ, ?_⟩
    rw [bigOut, bigOut_eq, finish_at, h, h]

end Cert.KernelIdeal.Attn

end
-- ==== Proof.AttnBlocks.lean ====
module

public import proofs.«01_k».proof.Proof.AttnFrame
public import Idealize.ShloMosaic.Lib.Pipeline.ValueKit

/-! Where the attention call's blocks lie in its arrays. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The blocks of a grid point. -/
theorem tile : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_5.index t = ![(grid0.coords t 0).val, (grid0.coords t 2).val, (grid0.coords t 1).val] :=
  (by decide +kernel : ∀ t : Fin grid0.N, _)

theorem q_at (c : Dev nD) (t : Fin cfg0.N) (r : Fin 4) (u : Fin 1024) (d : Fin 64) (i : Fin 4) (g : Fin 16) (j : Fin 8192)
    (hi : i.val = (grid0.coords t 0).val) (hg : g.val = (grid0.coords t 1).val * 4 + r.val) (hj : j.val = (grid0.coords t 2).val * 1024 + u.val) :
    iblk m c 0 t (ix4 (0 : Fin 1) r u d) = m ((c : Thread nD τ).loc main_arg0) (ix4 i g j d) := by
  pointwise []
  blk_point [iblk, V, tile t]

theorem k_at (c : Dev nD) (t : Fin cfg0.N) (k : Fin 8448) (d : Fin 64) (i g : Fin 4)
    (hi : i.val = (grid0.coords t 0).val) (hg : g.val = (grid0.coords t 1).val) :
    iblk m c 1 t (ix4 (0 : Fin 1) (0 : Fin 1) k d) = m ((c : Thread nD τ).loc main_arg1) (ix4 i g k d) := by
  pointwise []
  blk_point [iblk, V, tile t]

theorem v_at (c : Dev nD) (t : Fin cfg0.N) (r : Fin 80) (k : Fin 8448) (i g : Fin 4)
    (hi : i.val = (grid0.coords t 0).val) (hg : g.val = (grid0.coords t 1).val) :
    iblk m c 2 t (ix4 (0 : Fin 1) (0 : Fin 1) r k) = V m c main_v2 (ix4 i g r k) := by
  pointwise []
  blk_point [iblk, tile t]

theorem vt_at (c : Dev nD) (r : Fin 80) (d : Fin 64) (hr : r.val = d.val) (k : Fin 8448) (i g : Fin 4) :
    V m c main_v2 (ix4 i g r k) = m ((c : Thread nD τ).loc main_arg2) (ix4 i g k d) := by
  obtain ⟨r, hlt⟩ := r
  obtain rfl : r = d.val := hr
  entry_read
  pointwise []

theorem ones_at (c : Dev nD) (k : Fin 8448) (i g : Fin 4) : V m c main_v2 (ix4 i g (64 : Fin 80) k) = (1 : EReal) := by
  entry_read
  pointwise []

theorem emb_at (t : Fin cfg0.N) (u : Fin 1024) (e : Fin 256) (i : Fin 4) (j : Fin 8192) (w : Fin 1024)
    (hi : i.val = (grid0.coords t 0).val) (hj : j.val = (grid0.coords t 2).val * 1024 + u.val) (hw : w.val = (grid0.coords t 1).val * 256 + e.val) :
    ((cfg0.win 5).blk t).view.emb (ix3 (0 : Fin 1) u e) = ix3 i j w := by
  blk_ext [tile t]

end Cert.KernelIdeal.Attn

end
-- ==== Proof.AttnRef.lean ====
module

public import proofs.«01_k».proof.Defs
public import proofs.«01_k».proof.Proof.AttnMath
public import proofs.«01_k».proof.Proof.Gen.ReferenceIdeal
public import proofs.«01_k».proof.Proof.Gen.ReferenceIdeal.Run
public import Idealize.ShloMosaic.Lib.Pipeline.ValueKit

/-! The reference's softmax attention, entry by entry. -/

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

section Defs

variable {F : FTy → Type} [FloatOps F]

/-- The scores: the products of the queries and the keys, times the logarithm of two. -/
def scores (Q : FVec F S4x16x8192x64 .bf16) (K : FVec F S4x4x8448x64 .bf16) : FVec F S4x4x4x8192x8448 .f32 :=
  mulf (Host.dotGeneral dot_S4x4x4x8192x64_S4x4x8448x64_S4x4x4x8192x8448_4_3_23_2_01_01 none
      (shapeCast _ (extf .f32 Q bitsLt_bf16_f32) shapeCasts_S4x16x8192x64_S4x4x4x8192x64) (extf .f32 K bitsLt_bf16_f32))
    (broadcastInDim S4x4x4x8192x8448 ![] bcast_S_S4x4x4x8192x8448 (Host.log (constant S_ .f32 0x40000000#32)))

/-- The largest score of each query. -/
def best (S : FVec F S4x4x4x8192x8448 .f32) : FVec F S4x4x4x8192 .f32 :=
  maximumf (broadcastInDim S4x4x4x8192 ![] bcast_S_S4x4x4x8192 (constant S_ .f32 0xFF800000#32))
    (Host.reduce FloatOps.maximumf S (constant S_ .f32 0xFF800000#32) reducesTo_S4x4x4x8192x8448_S4x4x4x8192_d4 h_S_)

theorem best_eq (S : FVec F S4x4x4x8192x8448 .f32) (i : S4x4x4x8192.Idx) : best S i = FloatOps.maximumf (FloatOps.ofBits .f32 0xFF800000#32)
    (Host.reduce FloatOps.maximumf S (constant S_ .f32 0xFF800000#32) reducesTo_S4x4x4x8192x8448_S4x4x4x8192_d4 h_S_ i) := rfl

/-- A quantity of each query, repeated over the keys. -/
def spread (M : FVec F S4x4x4x8192 .f32) : FVec F S4x4x4x8192x8448 .f32 :=
  broadcastInDim S4x4x4x8192x8448 ![0, 1, 2, 3, 4] bcast_S4x4x4x8192x1_S4x4x4x8192x8448_0_1_2_3_4
    (broadcastInDim S4x4x4x8192x1 ![0, 1, 2, 3] bcast_S4x4x4x8192_S4x4x4x8192x1_0_1_2_3 M)

/-- The exponentials of the scores less a quantity of each query. -/
def exps (S : FVec F S4x4x4x8192x8448 .f32) (M : FVec F S4x4x4x8192 .f32) : FVec F S4x4x4x8192x8448 .f32 := Host.exp (subf S (spread M))

/-- The values weighted by the normalized exponentials, heads side by side. -/
def mixed (E : FVec F S4x4x4x8192x8448 .f32) (V : FVec F S4x4x8448x64 .bf16) : FVec F S4x8192x1024 .bf16 :=
  truncf .bf16 (shapeCast _ (transpose S4x8192x4x4x64 [0, 4, 1, 3, 2]
    (Host.dotGeneral dot_S4x4x8448x64_S4x4x4x8192x8448_S4x4x64x4x8192_2_4_3_23_01_01 none (extf .f32 V bitsLt_bf16_f32)
      (Host.divf E (spread (Host.reduceAdd E (constant S_ .f32 0x00000000#32) reducesTo_S4x4x4x8192x8448_S4x4x4x8192_d4 h_S_))))
    transposes_S4x4x64x4x8192_S4x8192x4x4x64_0_4_1_3_2) shapeCasts_S4x8192x4x4x64_S4x8192x1024) bitsLt_bf16_f32

/-- The reference's result. -/
def attention (Q : FVec F S4x16x8192x64 .bf16) (K : FVec F S4x4x8448x64 .bf16) (V : FVec F S4x4x8448x64 .bf16) : FVec F S4x8192x1024 .bf16 :=
  mixed (exps (scores Q K) (best (scores Q K))) V

end Defs

theorem scores_at (Q : FVec Ideal S4x16x8192x64 .bf16) (K : FVec Ideal S4x4x8448x64 .bf16) (b g r : Fin 4) (t : Fin 8192) (k : Fin 8448) :
    scores Q K (ix5 b g r t k) = (∑ d : Fin 64, K (ix4 b g k d) * Q (ix4 b (⟨g.val * 4 + r.val, by omega⟩ : Fin 16) t d)) * ((Real.log 2 : ℝ) : EReal) := by
  have e : Ideal.log (Ideal.ofBits .f32 0x40000000#32) = ((Real.log 2 : ℝ) : EReal) := by
    have : Ideal.ofBits .f32 0x40000000#32 = ((2 : ℝ) : EReal) := by
      simp [Ideal.ofBits, Ideal.ieee, -EReal.coe_mul]; norm_num
    rw [this]; exact (if_neg (by norm_num) : (if (2 : ℝ) ≤ 0 then (⊥ : EReal) else ((Real.log 2 : ℝ) : EReal)) = _)
  rw [← e]
  pointwise [scores]
  refine congrArg (· * _) (Finset.sum_congr rfl fun d _ => mul_comm _ _)

/-- The largest of finite scores is finite. -/
theorem best_finite (S : FVec Ideal S4x4x4x8192x8448 .f32) (hS : ∀ i, S i ≠ ⊤ ∧ S i ≠ ⊥) (b g r : Fin 4) (t : Fin 8192) :
    best S (ix4 b g r t) ≠ ⊤ ∧ best S (ix4 b g r t) ≠ ⊥ := by
  have hb : Ideal.ofBits .f32 0xFF800000#32 = ⊥ := by simp [Ideal.ofBits, Ideal.ieee]
  have hj : (reducesTo_S4x4x4x8192x8448_S4x4x4x8192_d4).drop (ix5 b g r t (0 : Fin 8448)) = ix4 b g r t := by
    funext a
    match a with
    | ⟨0, _⟩ => exact Fin.ext (Shape.ReducesTo.drop_apply_val_of_eq reducesTo_S4x4x4x8192x8448_S4x4x4x8192_d4 (ix5 b g r t (0 : Fin 8448)) (0 : Fin 4) (0 : Fin 5))
    | ⟨1, _⟩ => exact Fin.ext (Shape.ReducesTo.drop_apply_val_of_eq reducesTo_S4x4x4x8192x8448_S4x4x4x8192_d4 (ix5 b g r t (0 : Fin 8448)) (1 : Fin 4) (1 : Fin 5))
    | ⟨2, _⟩ => exact Fin.ext (Shape.ReducesTo.drop_apply_val_of_eq reducesTo_S4x4x4x8192x8448_S4x4x4x8192_d4 (ix5 b g r t (0 : Fin 8448)) (2 : Fin 4) (2 : Fin 5))
    | ⟨3, _⟩ => exact Fin.ext (Shape.ReducesTo.drop_apply_val_of_eq reducesTo_S4x4x4x8192x8448_S4x4x4x8192_d4 (ix5 b g r t (0 : Fin 8448)) (3 : Fin 4) (3 : Fin 5))
  have key : best S (ix4 b g r t) = max (Ideal.ofBits .f32 0xFF800000#32)
      (Host.reduce (FloatOps.maximumf (F := Ideal) (φ := .f32)) S (constant S_ .f32 0xFF800000#32) reducesTo_S4x4x4x8192x8448_S4x4x4x8192_d4 h_S_ (ix4 b g r t)) := best_eq S _
  rw [key, hb, Host.reduce_eq_fold, max_eq_right bot_le]
  change Finset.fold (max : EReal → EReal → EReal) (Ideal.ofBits .f32 0xFF800000#32) S _ ≠ ⊤
    ∧ Finset.fold (max : EReal → EReal → EReal) (Ideal.ofBits .f32 0xFF800000#32) S _ ≠ ⊥
  rw [hb]
  constructor
  · exact ne_of_lt ((Finset.fold_max_lt ⊤).2 ⟨bot_lt_top, fun i _ => lt_top_iff_ne_top.2 (hS i).1⟩)
  · refine ne_of_gt (lt_of_lt_of_le (bot_lt_iff_ne_bot.2 (hS (ix5 b g r t (0 : Fin 8448))).2) ?_)
    exact (Finset.le_fold_max _).2 (Or.inr ⟨_, Finset.mem_filter.2 ⟨Finset.mem_univ _, hj⟩, le_rfl⟩)

theorem exps_at (S : FVec Ideal S4x4x4x8192x8448 .f32) (M : FVec Ideal S4x4x4x8192 .f32) (b g r : Fin 4) (t : Fin 8192) (k : Fin 8448) :
    exps S M (ix5 b g r t k) = Ideal.exp (S (ix5 b g r t k) - M (ix4 b g r t)) := by
  pointwise [exps, spread]

theorem mixed_at (E : FVec Ideal S4x4x4x8192x8448 .f32) (V : FVec Ideal S4x4x8448x64 .bf16) (b : Fin 4) (t : Fin 8192) (c : Fin 1024) :
    mixed E V (ix3 b t c) = ∑ k : Fin 8448, V (ix4 b (⟨c.val / 256, by omega⟩ : Fin 4) k (⟨c.val % 64, by omega⟩ : Fin 64))
      * Ideal.div (E (ix5 b (⟨c.val / 256, by omega⟩ : Fin 4) (⟨c.val / 64 % 4, by omega⟩ : Fin 4) t k))
          (∑ k' : Fin 8448, E (ix5 b (⟨c.val / 256, by omega⟩ : Fin 4) (⟨c.val / 64 % 4, by omega⟩ : Fin 4) t k')) := by
  pointwise [mixed, spread]

end Cert.ReferenceIdeal.Attn

end
-- ==== Proof.AttnValue.lean ====
module

public import proofs.«01_k».proof.Proof.AttnSums
public import proofs.«01_k».proof.Proof.AttnBlocks
public import proofs.«01_k».proof.Proof.AttnRef
public import proofs.«01_k».proof.Proof.Gen.Pre_finite_scores
public import Idealize.ShloMosaic.Lib.Claim

/-! The attention call's result is the reference's softmax attention, when the queries and the keys are finite. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnMath

variable (m : (ℓ : Loc nD τ sig) → Buf (Elt Ideal) ℓ)

/-- The queries as launched. -/
abbrev Qa (c : Dev nD) : FVec Ideal S4x16x8192x64 .bf16 := m ((c : Thread nD τ).loc main_arg0)
/-- The keys as launched. -/
abbrev Ka (c : Dev nD) : FVec Ideal S4x4x8448x64 .bf16 := m ((c : Thread nD τ).loc main_arg1)
/-- The values as launched. -/
abbrev Va (c : Dev nD) : FVec Ideal S4x4x8448x64 .bf16 := m ((c : Thread nD τ).loc main_arg2)

/-- Queries and keys, as launched, are finite. -/
def Finite (c : Dev nD) : Prop :=
  (∀ i, Qa m c i ≠ (⊤ : EReal) ∧ Qa m c i ≠ (⊥ : EReal)) ∧ (∀ i, Ka m c i ≠ (⊤ : EReal) ∧ Ka m c i ≠ (⊥ : EReal))

/-- What the precondition says of one entry. -/
theorem entry_finite (x : EReal) (h : (Idealize.ShloMosaic.IntOp.andi (BitVec.ofBool (decide (x < ⊤))) (BitVec.ofBool (decide (⊥ < x)))) = 1#1) :
    x ≠ ⊤ ∧ x ≠ ⊥ := by
  have : x < ⊤ ∧ ⊥ < x := by
    by_cases h1 : x < ⊤ <;> by_cases h2 : ⊥ < x <;> simp [h1, h2, Idealize.ShloMosaic.IntOp.andi] at h ⊢
  exact ⟨ne_of_lt this.1, ne_of_gt this.2⟩

theorem finite_of_pre (h : Cert.Pre_KernelIdeal_finite_scores m) (c : Dev nD) : Finite m c := by
  obtain ⟨h0, h1⟩ := h c
  have ht : Ideal.ofBits .bf16 0x7F80#16 = ⊤ := by simp [Ideal.ofBits, Ideal.ieee]
  have hb : -(⊤ : EReal) = ⊥ := rfl
  refine ⟨fun i => entry_finite _ ?_, fun i => entry_finite _ ?_⟩
  · rw [← congrFun h0 i]
    pointwise [Cert.Pre_finite_scores.fn, Qa]
    rw [ht, hb]
  · rw [← congrFun h1 i]
    pointwise [Cert.Pre_finite_scores.fn, Ka]
    rw [ht, hb]

/-- A sum of products of finite numbers is finite. -/
theorem sum_finite {ι : Type} (s : Finset ι) (f : ι → EReal) (h : ∀ i ∈ s, f i ≠ ⊤ ∧ f i ≠ ⊥) : (∑ i ∈ s, f i) ≠ ⊤ ∧ (∑ i ∈ s, f i) ≠ ⊥ := by
  classical
  induction s using Finset.induction_on with
  | empty => simp
  | insert a s ha ih =>
    rw [Finset.sum_insert ha]
    have h1 := h a (Finset.mem_insert_self a s)
    have h2 := ih fun i hi => h i (Finset.mem_insert_of_mem hi)
    exact ⟨EReal.add_ne_top h1.1 h2.1, by simp [EReal.add_eq_bot_iff, h1.2, h2.2]⟩

theorem mul_finite (x y : EReal) (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The reference's scores. -/
abbrev RS (c : Dev nD) : FVec Ideal Cert.ReferenceIdeal.S4x4x4x8192x8448 .f32 := Cert.ReferenceIdeal.Attn.scores (F := Ideal) (Qa m c) (Ka m c)

theorem scores_finite (c : Dev nD) (h : Finite m c) (i : Cert.ReferenceIdeal.S4x4x4x8192x8448.Idx) :
    RS m c i ≠ (⊤ : EReal) ∧ RS m c i ≠ (⊥ : EReal) := by
  obtain ⟨b, g, r, t, k, rfl⟩ : ∃ b g r t k, i = ix5 (n0 := 4) (n1 := 4) (n2 := 4) (n3 := 8192) (n4 := 8448) b g r t k :=
    ⟨i 0, i 1, i 2, i 3, i 4, by funext a; match a with | ⟨0, _⟩ => rfl | ⟨1, _⟩ => rfl | ⟨2, _⟩ => rfl | ⟨3, _⟩ => rfl | ⟨4, _⟩ => rfl⟩
  rw [RS, Cert.ReferenceIdeal.Attn.scores_at]
  exact mul_finite _ _ (sum_finite _ _ fun d _ => mul_finite _ _ (h.2 _) (h.1 _)) ⟨EReal.coe_ne_top _, EReal.coe_ne_bot _⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Point

variable (c : Dev nD) (t : Fin cfg0.N)

/-- The queries of a grid point's block, as the kernel reads them. -/
abbrev qb : FVec Ideal S1x4x1024x64 .bf16 := View.ld (Val := Elt Ideal) (iblk m c 0 t) rQ

/-- The scores of a grid point's block. -/
abbrev sc (n : Fin 4096) (k : ℕ) : EReal := score (qb m c t) (iblk m c 1 t) n k

theorem sc_at (i g r : Fin 4) (j : Fin 8192) (u : Fin 1024) (k : Fin 8448) (n : Fin 4096) (hn : n.val = r.val * 1024 + u.val)
    (hi : i.val = (grid0.coords t 0).val) (hg : g.val = (grid0.coords t 1).val) (hj : j.val = (grid0.coords t 2).val * 1024 + u.val) :
    sc m c t n k.val
      = ∑ d : Fin 64, (Ka m c (ix4 i g k d) : EReal) * Qa m c (ix4 i (⟨g.val * 4 + r.val, by omega⟩ : Fin 16) j d) := by
  rw [sc, score, dif_pos k.isLt]
  refine Finset.sum_congr rfl fun d _ => congrArg₂ (· * ·) (k_at m c t k d i g hi hg) ?_
  refine Eq.trans ?_ (q_at m c t r u d i ⟨g.val * 4 + r.val, by omega⟩ j hi (by simp [hg]) hj)
  have hr : (⟨n.val / 1024, by omega⟩ : Fin 4) = r := Fin.ext (by show n.val / 1024 = r.val; omega)
  have hu : (⟨n.val % 1024, by omega⟩ : Fin 1024) = u := Fin.ext (by show n.val % 1024 = u.val; omega)
  rw [hr, hu]
  have hX : ∀ X : FVec Ideal S1x4x1024x64 .bf16, View.ld (Val := Elt Ideal) (e' := .bf16) X rQ (ix4 (0 : Fin 1) r u d) = X (ix4 (0 : Fin 1) r u d) := by
    intro X; pointwise []
  exact hX _

theorem sc_finite (h : Finite m c) (n : Fin 4096) (k : ℕ) : sc m c t n k ≠ ⊤ ∧ sc m c t n k ≠ ⊥ := by
  by_cases hk : k < 8448
  · have ht0 := (grid0.coords t 0).isLt
    have ht1 := (grid0.coords t 1).isLt
    have ht2 : (grid0.coords t 2).val < 8 := (grid0.coords t 2).isLt
    rw [sc_at m c t ⟨(grid0.coords t 0).val, ht0⟩ ⟨(grid0.coords t 1).val, ht1⟩ ⟨n.val / 1024, by omega⟩
      ⟨(grid0.coords t 2).val * 1024 + n.val % 1024, by omega⟩ ⟨n.val % 1024, by omega⟩ ⟨k, hk⟩ n (by simp; omega) rfl rfl rfl]
    exact sum_finite _ _ fun d _ => mul_finite _ _ (h.2 _) (h.1 _)
  · rw [sc, score, dif_neg hk]; exact ⟨EReal.zero_ne_top, EReal.zero_ne_bot⟩

/-- A quotient of the weighted sums over a block is the reference's entry. -/
theorem entry (h : Finite m c) (μ : ℝ) (i g r : Fin 4) (j : Fin 8192) (u : Fin 1024) (w : Fin 1024) (e : Fin 256) (n : Fin 4096)
    (hn : n.val = r.val * 1024 + u.val) (hr : r.val = e.val / 64)
    (hi : i.val = (grid0.coords t 0).val) (hg : g.val = (grid0.coords t 1).val) (hj : j.val = (grid0.coords t 2).val * 1024 + u.val)
    (hw : w.val = (grid0.coords t 1).val * 256 + e.val) (a : Fin 80) (ha : a.val = e.val % 64) :
    Ideal.div (wsum (value (iblk m c 2 t) a) (fun k => (sc m c t n k).toReal) μ 8448)
        (wsum (value (iblk m c 2 t) 64) (fun k => (sc m c t n k).toReal) μ 8448)
      = Cert.ReferenceIdeal.Attn.attention (F := Ideal) (Qa m c) (Ka m c) (Va m c) (ix3 i j w) := by
  obtain ⟨bt, bb⟩ := Cert.ReferenceIdeal.Attn.best_finite (RS m c) (scores_finite m c h) i g r j
  have eM := (EReal.coe_toReal bt bb).symm
  set μ' : ℝ := EReal.toReal (Cert.ReferenceIdeal.Attn.best (RS m c) (ix4 i g r j)) with hμ'
  have e1 : ∀ k : Fin 8448, Cert.ReferenceIdeal.Attn.exps (RS m c) (Cert.ReferenceIdeal.Attn.best (RS m c)) (ix5 i g r j k)
      = ((Real.exp ((sc m c t n k.val).toReal * Real.log 2 - μ') : ℝ) : EReal) := by
    intro k
    rw [Cert.ReferenceIdeal.Attn.exps_at, eM, RS, Cert.ReferenceIdeal.Attn.scores_at, ← sc_at m c t i g r j u k n hn hi hg hj,
      ← EReal.coe_toReal (sc_finite m c t h n k.val).1 (sc_finite m c t h n k.val).2, ← EReal.coe_mul, ← EReal.coe_sub]
    rfl
  rw [quotient _ _ _ μ μ' 8448 (by norm_num) ?_, Finset.sum_range, Cert.ReferenceIdeal.Attn.attention, Cert.ReferenceIdeal.Attn.mixed_at]
  · have hwg : (⟨w.val / 256, by omega⟩ : Fin 4) = g := Fin.ext (by simp; omega)
    have hwr : (⟨w.val / 64 % 4, by omega⟩ : Fin 4) = r := Fin.ext (by simp; omega)
    rw [hwg, hwr]
    refine Finset.sum_congr rfl fun k _ => congrArg₂ (· * ·) ?_ (congrArg₂ Ideal.div (e1 k).symm ?_)
    · rw [value, dif_pos k.isLt]
      refine (v_at m c t a k i g hi hg).trans (vt_at m c a ⟨w.val % 64, by omega⟩ (by simp; omega) k i g)
    · rw [Finset.sum_range, coe_sum]
      exact Finset.sum_congr rfl fun k' _ => (e1 k').symm
  · intro k hk
    rw [value, dif_pos hk]
    exact (v_at m c t 64 ⟨k, hk⟩ i g hi hg).trans (ones_at m c ⟨k, hk⟩ i g)

theorem block_eq (h : Finite m c) (y : S1x1024x256.Idx) :
    outBlock (F := Ideal) (iblk m c 0 t) (iblk m c 1 t) (iblk m c 2 t) (iblk m c 3 t) (iblk m c 4 t) y
      = Cert.ReferenceIdeal.Attn.attention (F := Ideal) (Qa m c) (Ka m c) (Va m c) (((cfg0.win 5).blk t).view.emb y) := by
  obtain ⟨u, e, rfl⟩ : ∃ u e, y = ix3 (n0 := 1) (n1 := 1024) (n2 := 256) (0 : Fin 1) u e :=
    ⟨y 1, y 2, by funext a; match a with | ⟨0, _⟩ => exact Subsingleton.elim (α := Fin 1) _ _ | ⟨1, _⟩ => rfl | ⟨2, _⟩ => rfl⟩
  have ht0 : (grid0.coords t 0).val < 4 := (grid0.coords t 0).isLt
  have ht1 : (grid0.coords t 1).val < 4 := (grid0.coords t 1).isLt
  have ht2 : (grid0.coords t 2).val < 8 := (grid0.coords t 2).isLt
  rw [emb_at t u e ⟨(grid0.coords t 0).val, ht0⟩ ⟨(grid0.coords t 2).val * 1024 + u.val, by omega⟩
    ⟨(grid0.coords t 1).val * 256 + e.val, by omega⟩ rfl rfl rfl]
  obtain ⟨⟨μ, hμ⟩, ⟨ν, hν⟩⟩ := block_at (qb m c t) (iblk m c 1 t) (iblk m c 2 t) (fun n k => (sc m c t n k).toReal)
    (fun n k => (EReal.coe_toReal (sc_finite m c t h n k).1 (sc_finite m c t h n k).2).symm) u e
  have fin := fun μ => entry m c t h μ ⟨(grid0.coords t 0).val, ht0⟩ ⟨(grid0.coords t 1).val, ht1⟩ ⟨e.val / 64, by omega⟩
    ⟨(grid0.coords t 2).val * 1024 + u.val, by omega⟩ u ⟨(grid0.coords t 1).val * 256 + e.val, by omega⟩ e
    ⟨e.val / 64 * 1024 + u.val, by omega⟩ rfl rfl rfl rfl rfl rfl ⟨e.val % 64, by omega⟩ rfl
  have hX : ∀ X : FVec Ideal S1x1024x256 .bf16, View.canon (Val := Elt Ideal) (e := .bf16) [⟨rO, X⟩] (ix3 (0 : Fin 1) u e) = X (ix3 (0 : Fin 1) u e) := by
    intro X; frame_out
  unfold outBlock
  split
  · exact (hX _).trans (hμ.trans (fin μ))
  · exact (hX _).trans (hν.trans (fin ν))

end Point

/-- The result array after the run. -/
theorem result (c : Dev nD) (h : Finite m c) : (dats m 0 c).arrAt 5 (cfgs 0).N
    = Cert.ReferenceIdeal.Attn.attention (F := Ideal) (Qa m c) (Ka m c) (Va m c) := by
  refine (dats m 0 c).arrAt_eq_of_covers 5 _ (by decide +kernel) fun t _ y => ?_
  blk_simp
  rw [after_5]
  exact block_eq m c t h y

/-- The two programs end with equal results. -/
theorem algebraic : Cert.algebraic_KernelIdeal_ReferenceIdeal_pre_finite_scores := by
  pair_intro
  · run_from Cert.KernelIdeal.Attn.run_main m g
  · hlo_run
    exact (result m c (finite_of_pre m ‹_› c)).symm

end Cert.KernelIdeal.Attn

end
-- ==== Proof.ModValue.lean ====
module

public import proofs.«01_k».proof.Proof.AttnValue
public import proofs.«01_k».proof.Proof.Gen.ModIdeal.Frame
public import proofs.«01_k».proof.Proof.Gen.ModRefIdeal
public import proofs.«01_k».proof.Proof.Gen.Pre_finite_weights
public import Idealize.ShloMosaic.Lib.Pipeline.ValueKit
public import Idealize.ShloMosaic.Lib.Claim

/-! The modulation call: the product of the two leading halves is the whole product when the operands are finite. -/

@[expose] public section

set_option maxRecDepth 16384

noncomputable section

open Idealize.ShloMosaic Idealize.ShloMosaic.TcCoe Idealize.SL.Sem
open Idealize.ShloMosaic.Pipeline (Dat)

namespace Cert.ModIdeal.Value

open Cert.ModIdeal Cert.ModIdeal.Gen

variable (m : (ℓ : Loc nD τ sig) → Buf (Elt Ideal) ℓ) (c : Dev nD) (t : Fin cfg0.N)

/-- The conditioning rows as launched. -/
abbrev Ca : FVec Ideal S16x1024 .f32 := m ((c : Thread nD τ).loc main_arg0)
/-- The weights as launched. -/
abbrev Wa : FVec Ideal S1x1024x3072 .f32 := m ((c : Thread nD τ).loc main_arg1)
/-- The bias as launched. -/
abbrev Ba : FVec Ideal S1x3072 .f32 := m ((c : Thread nD τ).loc main_arg2)

/-- Conditioning rows and weights, as launched, are finite. -/
def Finite : Prop := (∀ i, Ca m c i ≠ (⊤ : EReal) ∧ Ca m c i ≠ (⊥ : EReal)) ∧ (∀ i, Wa m c i ≠ (⊤ : EReal) ∧ Wa m c i ≠ (⊥ : EReal))

theorem finite_of_pre (h : Cert.Pre_ModIdeal_finite_weights m) (c : Dev nD) : Finite m c := by
  obtain ⟨h0, h1⟩ := h c
  have ht : Ideal.ofBits .f32 0x7F800000#32 = ⊤ := by simp [Ideal.ofBits, Ideal.ieee]
  have hb : -(⊤ : EReal) = ⊥ := rfl
  refine ⟨fun i => Cert.KernelIdeal.Attn.entry_finite _ ?_, fun i => Cert.KernelIdeal.Attn.entry_finite _ ?_⟩
  · rw [← congrFun h0 i]
    pointwise [Cert.Pre_finite_weights.fn, Ca]
    rw [ht, hb]
  · rw [← congrFun h1 i]
    pointwise [Cert.Pre_finite_weights.fn, Wa]
    rw [ht, hb]

/-- The blocks at a grid point. -/
theorem tile : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

section Rows

variable (n : Fin 1024) (q : Fin 3072) (hq : q.val = (grid0.coords t 0).val * 1024 + n.val)

theorem c_at (r : Fin 16) (e : Fin 1024) : iblk m c 0 t (ix2 r e) = Ca m c (ix2 r e) := by
  pointwise []
  blk_point [iblk, V, tile t]

include hq

theorem w_at (e : Fin 1024) : iblk m c 1 t (ix2 e n) = Wa m c (ix3 (0 : Fin 1) e q) := by
  have h : V m c main_v0 (ix2 e q) = Wa m c (ix3 (0 : Fin 1) e q) := by entry_read; pointwise []
  refine Eq.trans ?_ h
  pointwise []
  blk_point [iblk, tile t]

theorem b_at : iblk m c 2 t (ix2 (0 : Fin 1) n) = Ba m c (ix2 (0 : Fin 1) q) := by
  have h : V m c main_v2 (ix2 (0 : Fin 1) q) = Ba m c (ix2 (0 : Fin 1) q) := by entry_read; pointwise []
  refine Eq.trans ?_ h
  pointwise []
  blk_point [iblk, tile t]

theorem emb_at (r : Fin 16) : ((cfg0.win 3).blk t).view.emb (ix2 r n) = ix2 r q := by
  blk_ext [tile t]

end Rows

/-- The gated conditioning entry. -/
def gate (x : EReal) : EReal := x * Ideal.logistic x

/-- A gated finite number is finite. -/
theorem gate_finite (x : EReal) (h : x ≠ ⊤ ∧ x ≠ ⊥) : gate x ≠ ⊤ ∧ gate x ≠ ⊥ := by
  lift x to ℝ using h
  rw [gate, Ideal.logistic_coe, ← EReal.coe_mul]
  exact ⟨EReal.coe_ne_top _, EReal.coe_ne_bot _⟩

/-- One entry of the block a point stores, of finite operands. -/
theorem block_at (C : FVec Ideal S16x1024 .f32) (W : FVec Ideal S1024x1024 .f32) (B : FVec Ideal S1x1024 .f32) (r : Fin 16) (n : Fin 1024)
    (hC : ∀ e, C (ix2 r e) ≠ (⊤ : EReal) ∧ C (ix2 r e) ≠ (⊥ : EReal)) (hW : ∀ e, W (ix2 e n) ≠ (⊤ : EReal) ∧ W (ix2 e n) ≠ (⊥ : EReal)) :
    k0_pay1 (F := Ideal) C W B (ix2 r n) = ((∑ e : Fin 1024, gate (C (ix2 r e)) * W (ix2 e n)) + B (ix2 (0 : Fin 1) n) : EReal) := by
  have h1 : ∀ e, (W (ix2 e n) - W (ix2 e n) : EReal) = 0 := fun e => EReal.sub_self (hW e).1 (hW e).2
  have h2 : ∀ e, (gate (C (ix2 r e)) - gate (C (ix2 r e)) : EReal) = 0 := fun e => EReal.sub_self (gate_finite _ (hC e)).1 (gate_finite _ (hC e)).2
  pointwise [k0_pay1]
  simp only [gate] at h2 ⊢
  simp only [h1, h2, mul_zero, zero_mul, Finset.sum_const_zero, add_zero]

/-- The reference's result, over the argument arrays. -/
def want {F : FTy → Type} [FloatOps F] (C : FVec F Cert.ModRefIdeal.S16x1024 .f32) (W : FVec F Cert.ModRefIdeal.S1x1024x3072 .f32) (B : FVec F Cert.ModRefIdeal.S1x3072 .f32) :
    FVec F Cert.ModRefIdeal.S16x3072 .f32 :=
  addf (Host.dotGeneral Cert.ModRefIdeal.dot_S16x1024_S1024x3072_S16x3072_1_0_0_1_n_n none
      (mulf C (Host.divf (broadcastInDim Cert.ModRefIdeal.S16x1024 ![] Cert.ModRefIdeal.Gen.bcast_S_S16x1024 (constant Cert.ModRefIdeal.S_ .f32 0x3F800000#32))
        (addf (broadcastInDim Cert.ModRefIdeal.S16x1024 ![] Cert.ModRefIdeal.Gen.bcast_S_S16x1024 (constant Cert.ModRefIdeal.S_ .f32 0x3F800000#32)) (Host.exp (Host.negf C)))))
      (shapeCast _ W Cert.ModRefIdeal.Gen.shapeCasts_S1x1024x3072_S1024x3072))
    (broadcastInDim Cert.ModRefIdeal.S16x3072 ![0, 1] Cert.ModRefIdeal.Gen.bcast_S1x3072_S16x3072_0_1
      (broadcastInDim Cert.ModRefIdeal.S1x3072 ![1] Cert.ModRefIdeal.Gen.bcast_S3072_S1x3072_1 (shapeCast _ B Cert.ModRefIdeal.Gen.shapeCasts_S1x3072_S3072)))

theorem want_at (C : FVec Ideal S16x1024 .f32) (W : FVec Ideal S1x1024x3072 .f32) (B : FVec Ideal S1x3072 .f32) (r : Fin 16) (q : Fin 3072) :
    want (F := Ideal) C W B (ix2 r q) = ((∑ e : Fin 1024, gate (C (ix2 r e)) * W (ix3 (0 : Fin 1) e q)) + B (ix2 (0 : Fin 1) q) : EReal) := by
  pointwise [want]
  rfl

theorem out_eq (hf : Finite m c) (y : S16x1024.Idx) : k0_pay1 (iblk m c 0 t) (iblk m c 1 t) (iblk m c 2 t) y
    = want (F := Ideal) (Ca m c) (Wa m c) (Ba m c) (((cfg0.win 3).blk t).view.emb y) := by
  obtain ⟨r, n, rfl⟩ : ∃ r n, y = ix2 (n0 := 16) (n1 := 1024) r n :=
    ⟨y 0, y 1, by funext a; match a with | ⟨0, _⟩ => rfl | ⟨1, _⟩ => rfl⟩
  have ht0 : (grid0.coords t 0).val < 3 := (grid0.coords t 0).isLt
  obtain ⟨q, hq⟩ : ∃ q : Fin 3072, q.val = (grid0.coords t 0).val * 1024 + n.val := ⟨⟨_, by omega⟩, rfl⟩
  rw [emb_at t n q hq r, want_at]
  refine (block_at (iblk m c 0 t) (iblk m c 1 t) (iblk m c 2 t) r n (fun e => ?_) (fun e => ?_)).trans ?_
  · rw [c_at]; exact hf.1 _
  · rw [w_at m c t n q hq]; exact hf.2 _
  · simp only [c_at m c t r, w_at m c t n q hq, b_at m c t n q hq]

/-- The result array after the run, of finite operands. -/
theorem result (hf : Finite m c) : (dats m 0 c).arrAt 3 (cfgs 0).N = want (F := Ideal) (Ca m c) (Wa m c) (Ba m c) := by
  refine (dats m 0 c).arrAt_eq_of_covers 3 _ (by decide +kernel) fun t _ y => ?_
  blk_simp
  rw [after0_3]; frame_out
  exact out_eq m c t hf y

/-- The two programs end with equal results. -/
theorem algebraic : Cert.algebraic_ModIdeal_ModRefIdeal_pre_finite_weights := by
  pair_intro
  · run_from Cert.ModIdeal.Gen.run_main m g
  · hlo_run
    exact (result m c (finite_of_pre m ‹_› c)).symm

end Cert.ModIdeal.Value

end
-- ==== Proof.ConvBlocks.lean ====
module

public import proofs.«01_k».proof.Proof.Gen.ConvIdeal.Frame
public import Idealize.ShloMosaic.Lib.Pipeline.ValueKit

/-! Where the convolution call's blocks lie in its arrays. -/

@[expose] public section

set_option maxRecDepth 16384

noncomputable section

open Idealize.ShloMosaic Idealize.ShloMosaic.TcCoe Idealize.SL.Sem
open Idealize.ShloMosaic.Pipeline (Dat)

namespace Cert.ConvIdeal.Conv

open Cert.ConvIdeal Cert.ConvIdeal.Gen

variable (m : (ℓ : Loc nD τ sig) → Buf (Elt Ideal) ℓ) (c : Dev nD) (t : Fin cfg0.N)

/-- The projection as launched. -/
abbrev Pa : FVec Ideal S4x8448x9856 .bf16 := m ((c : Thread nD τ).loc main_arg0)
/-- The taps' weights as launched. -/
abbrev Wa : FVec Ideal S1x5x3072 .f32 := m ((c : Thread nD τ).loc main_arg1)
/-- The bias as launched. -/
abbrev Ba : FVec Ideal S1x3072 .f32 := m ((c : Thread nD τ).loc main_arg2)

/-- The current block and the two neighbouring strips at a grid point. -/
theorem tile : ∀ t : Fin cfg0.N, win0_0.index t = ![(grid0.coords t 0).val, (grid0.coords t 1).val, 2 + (grid0.coords t 2).val]
    ∧ win0_1.index t = ![(grid0.coords t 0).val, (grid0.coords t 1).val * 16 - 1, 2 + (grid0.coords t 2).val]
    ∧ win0_2.index t = ![(grid0.coords t 0).val, min ((grid0.coords t 1).val * 16 + 16) 527, 2 + (grid0.coords t 2).val] :=
  (by decide +kernel : ∀ t : Fin grid0.N, _)

/-- The weights', the bias's and the result's blocks at a grid point. -/
theorem tile' : ∀ t : Fin cfg0.N, win0_3.index t = ![0, (grid0.coords t 2).val] ∧ win0_4.index t = ![0, (grid0.coords t 2).val]
    ∧ win0_5.index t = ![(grid0.coords t 0).val, (grid0.coords t 1).val, (grid0.coords t 2).val] :=
  (by decide +kernel : ∀ t : Fin grid0.N, _)

section Rows

variable (i : Fin 4) (hi : i.val = (grid0.coords t 0).val) (n : Fin 1024) (e : Fin 3072) (he : e.val = (grid0.coords t 2).val * 1024 + n.val)

include hi he

theorem cur_at (r : Fin 256) (s : Fin 8448) (hs : s.val = (grid0.coords t 1).val * 256 + r.val) :
    X0_0 m c t (ix3 (0 : Fin 1) r n) = Pa m c (ix3 i s (⟨2048 + e.val, by omega⟩ : Fin 9856)) := by
  unfold X0_0 Pipeline.Window.fill
  rw [dif_pos (moved0_0 t _)]
  blk_point [iblk, V, tile t]

theorem prev_at (r : Fin 16) (s : Fin 8448) (hs : s.val = ((grid0.coords t 1).val * 16 - 1) * 16 + r.val) :
    X0_1 m c t (ix3 (0 : Fin 1) r n) = Pa m c (ix3 i s (⟨2048 + e.val, by omega⟩ : Fin 9856)) := by
  unfold X0_1 Pipeline.Window.fill
  rw [dif_pos (moved0_1 t _)]
  blk_point [iblk, V, tile t]

theorem next_at (r : Fin 16) (s : Fin 8448) (hs : s.val = min ((grid0.coords t 1).val * 16 + 16) 527 * 16 + r.val) :
    X0_2 m c t (ix3 (0 : Fin 1) r n) = Pa m c (ix3 i s (⟨2048 + e.val, by omega⟩ : Fin 9856)) := by
  unfold X0_2 Pipeline.Window.fill
  rw [dif_pos (moved0_2 t _)]
  blk_point [iblk, V, tile t]

theorem emb_at (r : Fin 256) (s : Fin 8448) (hs : s.val = (grid0.coords t 1).val * 256 + r.val) :
    ((cfg0.win 5).blk t).view.emb (ix3 (0 : Fin 1) r n) = ix3 i s e := by
  blk_ext [tile' t]

omit hi

theorem w_at (k : Fin 5) : iblk m c 3 t (ix2 k n) = Wa m c (ix3 (0 : Fin 1) k e) := by
  have h : V m c main_v0 (ix2 k e) = Wa m c (ix3 (0 : Fin 1) k e) := by entry_read; pointwise []
  refine Eq.trans ?_ h
  pointwise []
  blk_point [iblk, tile' t]

theorem b_at : iblk m c 4 t (ix2 (0 : Fin 1) n) = Ba m c (ix2 (0 : Fin 1) e) := by
  have h : V m c main_v2 (ix2 (0 : Fin 1) e) = Ba m c (ix2 (0 : Fin 1) e) := by entry_read; pointwise []
  refine Eq.trans ?_ h
  pointwise []
  blk_point [iblk, tile' t]

end Rows

end Cert.ConvIdeal.Conv

end
-- ==== Proof.ConvRef.lean ====
module

public import proofs.«01_k».proof.Proof.Gen.ConvRefIdeal
public import proofs.«01_k».proof.Proof.Gen.ConvRefIdeal.Run
public import Idealize.ShloMosaic.Lib.Pipeline.ValueKit

/-! The reference's convolution, entry by entry. -/

@[expose] public section

set_option maxRecDepth 16384

noncomputable section

open Idealize.ShloMosaic Idealize.ShloMosaic.TcCoe Idealize.SL.Sem

namespace Cert.ConvRefIdeal.Conv

open Cert.ConvRefIdeal Cert.ConvRefIdeal.Gen

section Defs

variable {F : FTy → Type} [FloatOps F]

/-- The columns the convolution reads. -/
def cols (P : FVec F S4x8448x9856 .bf16) : FVec F S4x8448x3072 .f32 :=
  extf .f32 (extractStridedSlice S4x8448x3072 ![0, 0, 2048] P slices_S4x8448x9856_S4x8448x3072_0_0_2048) bitsLt_bf16_f32

/-- The padding's value. -/
def zero : FVec F S_ .f32 := sitofp .f32 (constantI S_ 32 0#32)

/-- The context's tokens, padded. -/
def ctx (P : FVec F S4x8448x9856 .bf16) : FVec F S4x260x3072 .f32 :=
  pad S4x260x3072 ![0, 2, 0] ![0, 2, 0] ![0, 0, 0] (extractStridedSlice S4x256x3072 ![0, 0, 0] (cols P) slices_S4x8448x3072_S4x256x3072_0_0_0) zero pads_S4x256x3072_S4x260x3072_000_220_000 h_S_

/-- The latent tokens, padded. -/
def lat (P : FVec F S4x8448x9856 .bf16) : FVec F S4x8196x3072 .f32 :=
  pad S4x8196x3072 ![0, 2, 0] ![0, 2, 0] ![0, 0, 0] (extractStridedSlice S4x8192x3072 ![0, 256, 0] (cols P) slices_S4x8448x3072_S4x8192x3072_0_256_0) zero pads_S4x8192x3072_S4x8196x3072_000_220_000 h_S_

/-- A row as a stack of one. -/
def stack (w : FVec F S3072 .f32) : FVec F S1x1x3072 .f32 := broadcastInDim S1x1x3072 ![2] bcast_S3072_S1x1x3072_2 w

/-- One tap's weights. -/
def tapW (W : FVec F S1x5x3072 .f32) (o : ℕ) (h : S5x3072.Slices ![o, 0] S1x3072) : FVec F S1x1x3072 .f32 :=
  stack (shapeCast _ (extractStridedSlice S1x3072 ![o, 0] (shapeCast _ W shapeCasts_S1x5x3072_S5x3072) h) shapeCasts_S1x3072_S3072)

/-- One tap's product over the context. -/
def ctxTap (U : FVec F S4x260x3072 .f32) (w : FVec F S1x1x3072 .f32) (o : ℕ) (h : S4x260x3072.Slices ![0, o, 0] S4x256x3072) : FVec F S4x256x3072 .f32 :=
  mulf (broadcastInDim S4x256x3072 ![0, 1, 2] bcast_S1x1x3072_S4x256x3072_0_1_2 w) (extractStridedSlice S4x256x3072 ![0, o, 0] U h)

/-- One tap's product over the latent tokens. -/
def latTap (U : FVec F S4x8196x3072 .f32) (w : FVec F S1x1x3072 .f32) (o : ℕ) (h : S4x8196x3072.Slices ![0, o, 0] S4x8192x3072) : FVec F S4x8192x3072 .f32 :=
  mulf (broadcastInDim S4x8192x3072 ![0, 1, 2] bcast_S1x1x3072_S4x8192x3072_0_1_2 w) (extractStridedSlice S4x8192x3072 ![0, o, 0] U h)

/-- The five taps and the bias over the context. -/
def ctxSum (U : FVec F S4x260x3072 .f32) (W : FVec F S1x5x3072 .f32) (B : FVec F S1x3072 .f32) : FVec F S4x256x3072 .f32 :=
  addf (addf (addf (addf (addf (addf (broadcastInDim S4x256x3072 ![] bcast_S_S4x256x3072 (constant S_ .f32 0x00000000#32))
    (ctxTap U (tapW W 0 slices_S5x3072_S1x3072_0_0) 0 slices_S4x260x3072_S4x256x3072_0_0_0))
    (ctxTap U (tapW W 1 slices_S5x3072_S1x3072_1_0) 1 slices_S4x260x3072_S4x256x3072_0_1_0))
    (ctxTap U (tapW W 2 slices_S5x3072_S1x3072_2_0) 2 slices_S4x260x3072_S4x256x3072_0_2_0))
    (ctxTap U (tapW W 3 slices_S5x3072_S1x3072_3_0) 3 slices_S4x260x3072_S4x256x3072_0_3_0))
    (ctxTap U (tapW W 4 slices_S5x3072_S1x3072_4_0) 4 slices_S4x260x3072_S4x256x3072_0_4_0))
    (broadcastInDim S4x256x3072 ![0, 1, 2] bcast_S1x1x3072_S4x256x3072_0_1_2 (stack (shapeCast _ B shapeCasts_S1x3072_S3072)))

/-- The five taps and the bias over the latent tokens. -/
def latSum (U : FVec F S4x8196x3072 .f32) (W : FVec F S1x5x3072 .f32) (B : FVec F S1x3072 .f32) : FVec F S4x8192x3072 .f32 :=
  addf (addf (addf (addf (addf (addf (broadcastInDim S4x8192x3072 ![] bcast_S_S4x8192x3072 (constant S_ .f32 0x00000000#32))
    (latTap U (tapW W 0 slices_S5x3072_S1x3072_0_0) 0 slices_S4x8196x3072_S4x8192x3072_0_0_0))
    (latTap U (tapW W 1 slices_S5x3072_S1x3072_1_0) 1 slices_S4x8196x3072_S4x8192x3072_0_1_0))
    (latTap U (tapW W 2 slices_S5x3072_S1x3072_2_0) 2 slices_S4x8196x3072_S4x8192x3072_0_2_0))
    (latTap U (tapW W 3 slices_S5x3072_S1x3072_3_0) 3 slices_S4x8196x3072_S4x8192x3072_0_3_0))
    (latTap U (tapW W 4 slices_S5x3072_S1x3072_4_0) 4 slices_S4x8196x3072_S4x8192x3072_0_4_0))
    (broadcastInDim S4x8192x3072 ![0, 1, 2] bcast_S1x1x3072_S4x8192x3072_0_1_2 (stack (shapeCast _ B shapeCasts_S1x3072_S3072)))

/-- A number times its sigmoid, over the context. -/
def ctxGate (Z : FVec F S4x256x3072 .f32) : FVec F S4x256x3072 .f32 :=
  mulf Z (Host.divf (broadcastInDim S4x256x3072 ![] bcast_S_S4x256x3072 (constant S_ .f32 0x3F800000#32)) (addf (broadcastInDim S4x256x3072 ![] bcast_S_S4x256x3072 (constant S_ .f32 0x3F800000#32)) (Host.exp (Host.negf Z))))

/-- A number times its sigmoid, over the latent tokens. -/
def latGate (Z : FVec F S4x8192x3072 .f32) : FVec F S4x8192x3072 .f32 :=
  mulf Z (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf Z))))

/-- The reference's result. -/
def conv (P : FVec F S4x8448x9856 .bf16) (W : FVec F S1x5x3072 .f32) (B : FVec F S1x3072 .f32) : FVec F S4x8448x3072 .bf16 :=
  truncf .bf16 (concatenate S4x8448x3072 1 [⟨S4x256x3072, ctxGate (ctxSum (ctx P) W B)⟩, ⟨S4x8192x3072, latGate (latSum (lat P) W B)⟩]
    concatenates_S4x256x3072_S4x8192x3072_S4x8448x3072_d1) bitsLt_bf16_f32

set_option maxHeartbeats 2000000 in
theorem res_eq (m : (ℓ : Loc nD τ sig) → Buf (Elt F) ℓ) (c : Dev nD) : Cert.ConvRefIdeal.Value.res_main_v91 m c
    = conv (m ((c.tc : Thread nD τ).loc main_arg0)) (m ((c.tc : Thread nD τ).loc main_arg1)) (m ((c.tc : Thread nD τ).loc main_arg2)) := rfl

theorem conv_congr {P P' : FVec F S4x8448x9856 .bf16} {W W' : FVec F S1x5x3072 .f32} {B B' : FVec F S1x3072 .f32} (hP : P = P') (hW : W = W') (hB : B = B') :
    conv P W B = conv P' W' B' := by
  subst hP hW hB; rfl

end Defs

/-- A tap stays among the tokens of its own segment. -/
def inside (s k : ℕ) : Prop := if s < 256 then 2 ≤ s + k ∧ s + k < 258 else 258 ≤ s + k ∧ s + k < 8450

/-- What a tap reads: the token it points at, or zero past the segment's ends. -/
def tap (P : FVec Ideal S4x8448x9856 .bf16) (i : Fin 4) (e : Fin 3072) (s k : ℕ) : EReal :=
  open Classical in if h : inside s k ∧ s + k - 2 < 8448 then P (ix3 i (⟨s + k - 2, h.2⟩ : Fin 8448) (⟨2048 + e.val, by omega⟩ : Fin 9856)) else 0

theorem tap_in (P : FVec Ideal S4x8448x9856 .bf16) (i : Fin 4) (e : Fin 3072) (s k : ℕ) (j : Fin 8448) (hj : j.val + 2 = s + k) (h : inside s k) :
    tap P i e s k = P (ix3 i j (⟨2048 + e.val, by omega⟩ : Fin 9856)) := by
  have hk : s + k - 2 = j.val := by omega
  rw [tap, dif_pos ⟨h, by omega⟩]
  congr 2
  exact Fin.ext hk

theorem tap_out (P : FVec Ideal S4x8448x9856 .bf16) (i : Fin 4) (e : Fin 3072) (s k : ℕ) (h : ¬inside s k) : tap P i e s k = 0 := by
  rw [tap, dif_neg fun h' => h h'.1]

theorem inside_ctx (s k : ℕ) (hs : s < 256) : inside s k ↔ 2 ≤ s + k ∧ s + k < 258 := by rw [inside, if_pos hs]

theorem inside_lat (s k : ℕ) (hs : 256 ≤ s) : inside s k ↔ 258 ≤ s + k ∧ s + k < 8450 := by rw [inside, if_neg (by omega)]

/-- The taps' sum with the bias first. -/
def total (b : EReal) (w x : Fin 5 → EReal) : EReal := b + w 0 * x 0 + w 1 * x 1 + w 2 * x 2 + w 3 * x 3 + w 4 * x 4

/-- The gated sum. -/
def gated (x : EReal) : EReal := x * Ideal.logistic x

theorem sitofp_zero : FloatOps.sitofp (F := Ideal) FTy.f32 0#32 = (0 : EReal) := by
  show (((0#32 : BitVec 32).toInt : ℝ) : EReal) = 0
  simp

theorem zero_at (y) : zero (F := Ideal) y = (0 : EReal) := by
  pointwise [zero]
  exact sitofp_zero

theorem ctx_at (P : FVec Ideal S4x8448x9856 .bf16) (i : Fin 4) (e : Fin 3072) (s k : ℕ) (hs : s < 256) (hk : k < 5) :
    ctx P (ix3 i (⟨k + s, by omega⟩ : Fin 260) e) = tap P i e s k := by
  have hz := inside_ctx s k hs
  pointwise [ctx, cols, zero_at]
  by_cases h : inside s k
  · have h' := hz.mp h
    rw [dif_pos (by omega), tap_in P i e s k ⟨k + s - 2, by omega⟩ (by show k + s - 2 + 2 = s + k; omega) h]
  · rw [dif_neg (fun h' => h (hz.mpr (by omega))), tap_out P i e s k h]

theorem lat_at (P : FVec Ideal S4x8448x9856 .bf16) (i : Fin 4) (e : Fin 3072) (s k : ℕ) (hs : s < 8192) (hk : k < 5) :
    lat P (ix3 i (⟨k + s, by omega⟩ : Fin 8196) e) = tap P i e (256 + s) k := by
  have hz := inside_lat (256 + s) k (by omega)
  pointwise [lat, cols, zero_at]
  by_cases h : inside (256 + s) k
  · have h' := hz.mp h
    rw [dif_pos (by omega), tap_in P i e (256 + s) k ⟨256 + (k + s - 2), by omega⟩ (by show 256 + (k + s - 2) + 2 = 256 + s + k; omega) h]
  · rw [dif_neg (fun h' => h (hz.mpr (by omega))), tap_out P i e (256 + s) k h]

theorem tapW_at (W : FVec Ideal S1x5x3072 .f32) (k : ℕ) (hk : k < 5) (h) (e : Fin 3072) :
    tapW W k h (ix3 (0 : Fin 1) (0 : Fin 1) e) = W (ix3 (0 : Fin 1) (⟨k, hk⟩ : Fin 5) e) := by
  pointwise [tapW, stack]

theorem ctxTap_at (P : FVec Ideal S4x8448x9856 .bf16) (w : FVec Ideal S1x1x3072 .f32) (k : ℕ) (hk : k < 5) (h) (i : Fin 4) (s : Fin 256) (e : Fin 3072) :
    ctxTap (ctx P) w k h (ix3 i s e) = (w (ix3 (0 : Fin 1) (0 : Fin 1) e) * tap P i e s.val k : EReal) := by
  pointwise [ctxTap]
  rw [ctx_at P i e s.val k s.isLt hk]

theorem latTap_at (P : FVec Ideal S4x8448x9856 .bf16) (w : FVec Ideal S1x1x3072 .f32) (k : ℕ) (hk : k < 5) (h) (i : Fin 4) (s : Fin 8192) (e : Fin 3072) :
    latTap (lat P) w k h (ix3 i s e) = (w (ix3 (0 : Fin 1) (0 : Fin 1) e) * tap P i e (256 + s.val) k : EReal) := by
  pointwise [latTap]
  rw [lat_at P i e s.val k s.isLt hk]

variable (P : FVec Ideal S4x8448x9856 .bf16) (W : FVec Ideal S1x5x3072 .f32) (B : FVec Ideal S1x3072 .f32)

/-- The value the reference has at a token. -/
def value (i : Fin 4) (e : Fin 3072) (s : ℕ) : EReal :=
  gated (total (B (ix2 (0 : Fin 1) e)) (fun k => W (ix3 (0 : Fin 1) k e)) (fun k => tap P i e s k.val))

/-- The bias may be added last. -/
theorem total_eq (b : EReal) (w x : Fin 5 → EReal) : w 0 * x 0 + w 1 * x 1 + w 2 * x 2 + w 3 * x 3 + w 4 * x 4 + b = total b w x := by
  rw [total]; abel

theorem ctxSum_at (i : Fin 4) (s : Fin 256) (e : Fin 3072) : ctxSum (ctx P) W B (ix3 i s e)
    = total (B (ix2 (0 : Fin 1) e)) (fun k => W (ix3 (0 : Fin 1) k e)) (fun k => tap P i e s.val k.val) := by
  rw [← total_eq]
  pointwise [ctxSum, stack]
  rw [ctxTap_at P _ 0 (by omega), ctxTap_at P _ 1 (by omega), ctxTap_at P _ 2 (by omega), ctxTap_at P _ 3 (by omega), ctxTap_at P _ 4 (by omega),
    tapW_at W 0 (by omega), tapW_at W 1 (by omega), tapW_at W 2 (by omega), tapW_at W 3 (by omega), tapW_at W 4 (by omega)]
  rfl

theorem latSum_at (i : Fin 4) (s : Fin 8192) (e : Fin 3072) : latSum (lat P) W B (ix3 i s e)
    = total (B (ix2 (0 : Fin 1) e)) (fun k => W (ix3 (0 : Fin 1) k e)) (fun k => tap P i e (256 + s.val) k.val) := by
  rw [← total_eq]
  pointwise [latSum, stack]
  rw [latTap_at P _ 0 (by omega), latTap_at P _ 1 (by omega), latTap_at P _ 2 (by omega), latTap_at P _ 3 (by omega), latTap_at P _ 4 (by omega),
    tapW_at W 0 (by omega), tapW_at W 1 (by omega), tapW_at W 2 (by omega), tapW_at W 3 (by omega), tapW_at W 4 (by omega)]
  rfl

theorem ctxGate_at (Z : FVec Ideal S4x256x3072 .f32) (y) : ctxGate Z y = gated (Z y) := by
  pointwise [ctxGate]
  rfl

theorem latGate_at (Z : FVec Ideal S4x8192x3072 .f32) (y) : latGate Z y = gated (Z y) := by
  pointwise [latGate]
  rfl

/-- One entry of the reference's result. -/
theorem conv_at (i : Fin 4) (s : Fin 8448) (e : Fin 3072) : conv P W B (ix3 i s e) = value P W B i e s.val := by
  pointwise [conv]
  by_cases h : s.val < 256
  · rw [dif_pos h, ctxGate_at, ctxSum_at]
    rfl
  · rw [dif_neg h, latGate_at, latSum_at]
    have hs : 256 + (s.val - 256) = s.val := by omega
    simp only [hs, value]

end Cert.ConvRefIdeal.Conv

end
-- ==== Proof.ConvValue.lean ====
module

public import proofs.«01_k».proof.Proof.ConvBlocks
public import proofs.«01_k».proof.Proof.ConvRef
public import proofs.«01_k».proof.Defs
public import Idealize.ShloMosaic.Lib.Claim

/-! The convolution call's result is the reference's convolution. -/

@[expose] public section

set_option maxRecDepth 16384

noncomputable section

open Idealize.ShloMosaic Idealize.ShloMosaic.TcCoe Idealize.SL.Sem
open Idealize.ShloMosaic.Pipeline (Dat)

namespace Cert.ConvIdeal.Conv

open Cert.ConvIdeal Cert.ConvIdeal.Gen
open Cert.ConvRefIdeal.Conv (inside inside_ctx inside_lat tap tap_in tap_out total gated value conv conv_at)

/-- The first segment flag of a row block: no tokens before it in its segment. -/
theorem first_flag (a : ℕ) (ha : a < 33) :
    Scalar.ori (Scalar.cmpi .eq (BitVec.ofNat 32 a) 0#32) (Scalar.cmpi .eq (BitVec.ofNat 32 a) 1#32) = if a = 0 ∨ a = 1 then 1#1 else 0#1 := by
  interval_cases a <;> rfl

/-- The last segment flag of a row block: no tokens after it in its segment. -/
theorem last_flag (a : ℕ) (ha : a < 33) :
    Scalar.ori (Scalar.cmpi .eq (BitVec.ofNat 32 a) 0#32) (Scalar.cmpi .eq (BitVec.ofNat 32 a) 32#32) = if a = 0 ∨ a = 32 then 1#1 else 0#1 := by
  interval_cases a <;> rfl

theorem select_ite {α : Type} (p : Prop) [Decidable p] (x y : α) : Scalar.select (if p then 1#1 else 0#1) x y = if p then x else y := by
  split_ifs <;> rfl

/-- The strip before, the block and the strip after, stacked. -/
theorem stacked_at (g : grid0.Coords) (x0 : FVec Ideal S1x256x1024 .bf16) (x1 x2 : FVec Ideal S1x16x1024 .bf16) (q : Fin 288) (n : Fin 1024) :
    k0_pay2 (F := Ideal) g x0 x1 x2 (ix2 q n) = (if h : q.val < 16 then
      Scalar.select (Scalar.ori (Scalar.cmpi .eq (BitVec.ofNat 32 (g 1).val) 0#32) (Scalar.cmpi .eq (BitVec.ofNat 32 (g 1).val) 1#32)) (0 : EReal) (x1 (ix3 (0 : Fin 1) (⟨q.val, h⟩ : Fin 16) n))
      else if h' : q.val - 16 < 256 then x0 (ix3 (0 : Fin 1) (⟨q.val - 16, h'⟩ : Fin 256) n)
      else Scalar.select (Scalar.ori (Scalar.cmpi .eq (BitVec.ofNat 32 (g 1).val) 0#32) (Scalar.cmpi .eq (BitVec.ofNat 32 (g 1).val) 32#32)) (0 : EReal)
        (x2 (ix3 (0 : Fin 1) (⟨q.val - 16 - 256, by omega⟩ : Fin 16) n)) : EReal) := by
  pointwise [k0_pay2]

/-- One entry of the block a point stores. -/
theorem block_at (g : grid0.Coords) (x0 : FVec Ideal S1x256x1024 .bf16) (x1 x2 : FVec Ideal S1x16x1024 .bf16) (b w0 w1 w2 w3 w4 : FVec Ideal S1x1024 .f32)
    (r : Fin 256) (n : Fin 1024) (w x : Fin 5 → EReal) (hw : ![w0 (ix2 (0 : Fin 1) n), w1 (ix2 (0 : Fin 1) n), w2 (ix2 (0 : Fin 1) n), w3 (ix2 (0 : Fin 1) n), w4 (ix2 (0 : Fin 1) n)] = w)
    (hx : ∀ (k : Fin 5) (q : Fin 288), q.val = 14 + r.val + k.val → k0_pay2 (F := Ideal) g x0 x1 x2 (ix2 q n) = x k) :
    k0_pay1 (F := Ideal) (k0_pay2 g x0 x1 x2) (k0_pay3 g x0 x1 x2 b w0) (k0_pay4 g x0 x1 x2) w1 w2 w3 w4 (ix3 (0 : Fin 1) r n) = gated (total (b (ix2 (0 : Fin 1) n)) w x) := by
  subst hw
  pointwise [k0_pay1, k0_pay3, k0_pay4]
  rw [hx 0 _ (by show (16 + r.val + 288 - 2) % 288 = 14 + r.val + 0; omega), hx 1 _ (by show (16 + r.val + 288 - 1) % 288 = 14 + r.val + 1; omega),
    hx 2 _ (by show 16 + r.val = 14 + r.val + 2; omega), hx 3 _ (by show (16 + r.val + 288 - 287) % 288 = 14 + r.val + 3; omega),
    hx 4 _ (by show (16 + r.val + 288 - 286) % 288 = 14 + r.val + 4; omega)]
  rfl

variable (m : (ℓ : Loc nD τ sig) → Buf (Elt Ideal) ℓ) (c : Dev nD) (t : Fin cfg0.N)

/-- The strip before, the block and the strip after hold what the taps read. -/
theorem strip_at (i : Fin 4) (hi : i.val = (grid0.coords t 0).val) (n : Fin 1024) (e : Fin 3072) (he : e.val = (grid0.coords t 2).val * 1024 + n.val)
    (r : Fin 256) (s : Fin 8448) (hs : s.val = (grid0.coords t 1).val * 256 + r.val) (k : Fin 5) (q : Fin 288) (hq : q.val = 14 + r.val + k.val) :
    k0_pay2 (F := Ideal) (grid0.coords t) (X0_0 m c t) (X0_1 m c t) (X0_2 m c t) (ix2 q n) = tap (Pa m c) i e s.val k.val := by
  have ha : (grid0.coords t 1).val < 33 := (grid0.coords t 1).isLt
  have hk := k.isLt
  rw [stacked_at, first_flag _ ha, last_flag _ ha]
  simp only [select_ite]
  generalize hA : (grid0.coords t 1).val = a at *
  have hin : inside s.val k.val ↔ if a = 0 then 2 ≤ s.val + k.val ∧ s.val + k.val < 258 else 258 ≤ s.val + k.val ∧ s.val + k.val < 8450 := by
    by_cases h : a = 0
    · rw [if_pos h, inside_ctx _ _ (by omega)]
    · rw [if_neg h, inside_lat _ _ (by omega)]
  by_cases h1 : q.val < 16
  · rw [dif_pos h1]
    by_cases hf : a = 0 ∨ a = 1
    · rw [if_pos hf, tap_out _ _ _ _ _ (fun h => by have := hin.mp h; split_ifs at this <;> omega)]
    · rw [if_neg hf, prev_at m c t i hi n e he ⟨q.val, h1⟩ ⟨s.val + k.val - 2, by omega⟩ (by rw [hA]; show s.val + k.val - 2 = (a * 16 - 1) * 16 + q.val; omega)]
      exact (tap_in _ _ _ _ _ _ (by show s.val + k.val - 2 + 2 = _; omega) (hin.mpr (by rw [if_neg (by omega)]; omega))).symm
  · rw [dif_neg h1]
    by_cases h2 : q.val - 16 < 256
    · rw [dif_pos h2, cur_at m c t i hi n e he ⟨q.val - 16, h2⟩ ⟨s.val + k.val - 2, by omega⟩ (by rw [hA]; show s.val + k.val - 2 = a * 256 + (q.val - 16); omega)]
      exact (tap_in _ _ _ _ _ _ (by show s.val + k.val - 2 + 2 = _; omega) (hin.mpr (by split_ifs <;> omega))).symm
    · rw [dif_neg h2]
      by_cases hf : a = 0 ∨ a = 32
      · rw [if_pos hf, tap_out _ _ _ _ _ (fun h => by have := hin.mp h; split_ifs at this <;> omega)]
      · rw [if_neg hf, next_at m c t i hi n e he ⟨q.val - 16 - 256, by omega⟩ ⟨s.val + k.val - 2, by omega⟩ (by rw [hA]; show s.val + k.val - 2 = min (a * 16 + 16) 527 * 16 + (q.val - 16 - 256); omega)]
        exact (tap_in _ _ _ _ _ _ (by show s.val + k.val - 2 + 2 = _; omega) (hin.mpr (by rw [if_neg (by omega)]; omega))).symm

theorem row_at (x : FVec Ideal S5x1024 .f32) (k : Fin 5) (n : Fin 1024) (h) :
    View.ld (Val := Elt Ideal) (e' := .f32) x (Rect.unit (s := S5x1024) ![k.val, 0] ![1, 1024] h) (ix2 (0 : Fin 1) n) = x (ix2 k n) := by
  pointwise []

theorem out_eq (y : S1x256x1024.Idx) : outsAt0 (F := Ideal) m c t y = conv (F := Ideal) (Pa m c) (Wa m c) (Ba m c) (((cfg0.win 5).blk t).view.emb y) := by
  obtain ⟨r, n, rfl⟩ : ∃ r n, y = ix3 (n0 := 1) (n1 := 256) (n2 := 1024) (0 : Fin 1) r n :=
    ⟨y 1, y 2, by funext a; match a with | ⟨0, _⟩ => exact Subsingleton.elim (α := Fin 1) _ _ | ⟨1, _⟩ => rfl | ⟨2, _⟩ => rfl⟩
  have ht0 : (grid0.coords t 0).val < 4 := (grid0.coords t 0).isLt
  have ht1 : (grid0.coords t 1).val < 33 := (grid0.coords t 1).isLt
  have ht2 : (grid0.coords t 2).val < 3 := (grid0.coords t 2).isLt
  obtain ⟨i, hi⟩ : ∃ i : Fin 4, i.val = (grid0.coords t 0).val := ⟨⟨_, ht0⟩, rfl⟩
  obtain ⟨s, hs⟩ : ∃ s : Fin 8448, s.val = (grid0.coords t 1).val * 256 + r.val := ⟨⟨_, by omega⟩, rfl⟩
  obtain ⟨e, he⟩ : ∃ e : Fin 3072, e.val = (grid0.coords t 2).val * 1024 + n.val := ⟨⟨_, by omega⟩, rfl⟩
  rw [emb_at t i hi n e he r s hs, conv_at]
  unfold outsAt0
  frame_out
  refine (block_at (grid0.coords t) (X0_0 m c t) (X0_1 m c t) (X0_2 m c t) (iblk m c 4 t) _ _ _ _ _ r n
    (fun k => Wa m c (ix3 (0 : Fin 1) k e)) (fun k => tap (Pa m c) i e s.val k.val) ?_ (strip_at m c t i hi n e he r s hs)).trans ?_
  · funext k
    rw [← w_at m c t n e he k]
    match k with
    | 0 => exact row_at (iblk m c 3 t) 0 n _
    | 1 => exact row_at (iblk m c 3 t) 1 n _
    | 2 => exact row_at (iblk m c 3 t) 2 n _
    | 3 => exact row_at (iblk m c 3 t) 3 n _
    | 4 => exact row_at (iblk m c 3 t) 4 n _
  · rw [b_at m c t n e he]
    rfl

/-- The result array after the run. -/
theorem result : (dats m 0 c).arrAt 5 (cfgs 0).N = conv (F := Ideal) (Pa m c) (Wa m c) (Ba m c) := by
  refine (dats m 0 c).arrAt_eq_of_covers 5 _ (by decide +kernel) fun t _ y => ?_
  blk_simp
  rw [after0_5]
  exact out_eq m c t y

set_option maxHeartbeats 2000000 in
/-- The two programs end with equal results. -/
theorem algebraic : Cert.algebraic_ConvIdeal_ConvRefIdeal := by
  pair_intro
  · run_from Cert.ConvIdeal.Gen.run_main m g
  · run_from Cert.ConvRefIdeal.Value.run m' g'
    obtain ⟨h0, h1, h2⟩ := hagree c
    exact (Cert.ConvRefIdeal.Conv.res_eq m' c).trans ((Cert.ConvRefIdeal.Conv.conv_congr h0 h1 h2).trans (result m c).symm)

end Cert.ConvIdeal.Conv

end
-- ==== Proof.NormBlocks.lean ====
module

public import proofs.«01_k».proof.Proof.AttnValue
public import proofs.«01_k».proof.Proof.Gen.NormIdeal.Frame
public import proofs.«01_k».proof.Proof.Gen.Pre_finite_steps
public import proofs.«01_k».proof.Defs
public import Idealize.ShloMosaic.Lib.Pipeline.ValueKit

/-! Where the normalization call's blocks lie in its arrays. -/

@[expose] public section

set_option maxRecDepth 16384

noncomputable section

open Idealize.ShloMosaic Idealize.ShloMosaic.TcCoe Idealize.SL.Sem
open Idealize.ShloMosaic.Pipeline (Dat)

namespace Cert.NormIdeal.Norm

open Cert.NormIdeal Cert.NormIdeal.Gen

section Laid

variable {F : FTy → Type} [FloatOps F]

/-- The padding's value. -/
def zero : FVec F S_ .f32 := sitofp .f32 (constantI S_ 32 0#32)

/-- The weights of the time steps, padded to a full row of lanes. -/
def laidW (W : FVec F S1x1024x9792 .f32) : FVec F S1024x128 .f32 :=
  pad S1024x128 ![0, 0] ![0, 64] ![0, 0] (extractStridedSlice S1024x64 ![0, 5120] (shapeCast _ W shapeCasts_S1x1024x9792_S1024x9792) slices_S1024x9792_S1024x64_0_5120)
    zero pads_S1024x64_S1024x128_000_0640 h_S_

/-- Two rows of heads beside each other, padded to a full row of lanes. -/
def lanes (b : FVec F S2x32 .f32) : FVec F S1x128 .f32 :=
  pad S1x128 ![0, 0] ![0, 64] ![0, 0] (shapeCast _ b shapeCasts_S2x32_S1x64) zero pads_S1x64_S1x128_000_0640 h_S_

variable (m : (ℓ : Loc nD τ sig) → Buf (Elt F) ℓ) (c : Dev nD)

theorem V_hi : V m c main_v3 = truncf .bf16 (laidW (m ((c : Thread nD τ).loc main_arg4))) bitsLt_bf16_f32 := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_lo : V m c main_v6 = truncf .bf16 (subf (laidW (m ((c : Thread nD τ).loc main_arg4)))
    (extf .f32 (truncf .bf16 (laidW (m ((c : Thread nD τ).loc main_arg4))) bitsLt_bf16_f32) bitsLt_bf16_f32)) bitsLt_bf16_f32 := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_b : V m c main_v9 = lanes (shapeCast _ (m ((c : Thread nD τ).loc main_arg5)) shapeCasts_S1x2x32_S2x32) := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_a : V m c main_v14 = lanes (Host.negf (Host.exp (shapeCast _ (m ((c : Thread nD τ).loc main_arg6)) shapeCasts_S1x2x32_S2x32))) := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_g : V m c main_v16 = broadcastInDim S1x1024 ![1] bcast_S1024_S1x1024_1 (shapeCast _ (m ((c : Thread nD τ).loc main_arg3)) shapeCasts_S1x1024_S1024) := by
  simp only [V, hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

end Laid

theorem laidW_at (W : FVec Ideal S1x1024x9792 .f32) (e : Fin 1024) (q : Fin 128) (h : Fin 64) (hq : q.val = h.val) :
    laidW W (ix2 e q) = W (ix3 (0 : Fin 1) e (⟨5120 + h.val, by omega⟩ : Fin 9792)) := by
  obtain rfl : q = ⟨h.val, Nat.lt_of_lt_of_le h.isLt (by decide)⟩ := Fin.ext hq
  pointwise [laidW]

theorem lanes_at (b : FVec Ideal S2x32 .f32) (q : Fin 128) (h : Fin 64) (hq : q.val = h.val) :
    lanes b (ix2 (0 : Fin 1) q) = b (ix2 (⟨h.val / 32, by omega⟩ : Fin 2) (⟨h.val % 32, by omega⟩ : Fin 32)) := by
  obtain rfl : q = ⟨h.val, Nat.lt_of_lt_of_le h.isLt (by decide)⟩ := Fin.ext hq
  pointwise [lanes]

variable (m : (ℓ : Loc nD τ sig) → Buf (Elt Ideal) ℓ) (c : Dev nD) (t : Fin cfg0.N)

/-- The latent tokens as launched. -/
abbrev Xa : FVec Ideal S4x8192x1024 .f32 := m ((c : Thread nD τ).loc main_arg0)
/-- The context as launched. -/
abbrev Ya : FVec Ideal S4x256x1024 .f32 := m ((c : Thread nD τ).loc main_arg1)
/-- The modulation as launched. -/
abbrev Ma : FVec Ideal S16x1x3072 .f32 := m ((c : Thread nD τ).loc main_arg2)
/-- The normalization's scale as launched. -/
abbrev Ga : FVec Ideal S1x1024 .f32 := m ((c : Thread nD τ).loc main_arg3)
/-- The projection's weights as launched. -/
abbrev Wa : FVec Ideal S1x1024x9792 .f32 := m ((c : Thread nD τ).loc main_arg4)
/-- The time steps' bias as launched. -/
abbrev Ba : FVec Ideal S1x2x32 .f32 := m ((c : Thread nD τ).loc main_arg5)
/-- The decay's logarithms as launched. -/
abbrev Aa : FVec Ideal S1x2x32 .f32 := m ((c : Thread nD τ).loc main_arg6)

/-- The weights of the time steps, as launched, are finite. -/
def Finite : Prop := ∀ (e : Fin 1024) (h : Fin 64), Wa m c (ix3 (0 : Fin 1) e (⟨5120 + h.val, by omega⟩ : Fin 9792)) ≠ (⊤ : EReal)
  ∧ Wa m c (ix3 (0 : Fin 1) e (⟨5120 + h.val, by omega⟩ : Fin 9792)) ≠ (⊥ : EReal)

theorem finite_of_pre (h : Cert.Pre_NormIdeal_finite_steps m) (c : Dev nD) : Finite m c := by
  have h0 := h c
  have ht : Ideal.ofBits .f32 0x7F800000#32 = ⊤ := by simp [Ideal.ofBits, Ideal.ieee]
  have hb : -(⊤ : EReal) = ⊥ := rfl
  refine fun e n => Cert.KernelIdeal.Attn.entry_finite _ ?_
  rw [← congrFun h0 (ix3 (0 : Fin 1) e n)]
  pointwise [Cert.Pre_finite_steps.fn, Wa]
  rw [ht, hb]

/-- The token blocks and the modulation's row at a grid point. -/
theorem tile : ∀ t : Fin cfg0.N, win0_0.index t = ![(grid0.coords t 0).val, (grid0.coords t 1).val - 1, 0]
    ∧ win0_1.index t = ![(grid0.coords t 0).val, 0, 0]
    ∧ win0_2.index t = ![if (grid0.coords t 1).val < 1 then 4 else (grid0.coords t 0).val, 0, 0] :=
  (by decide +kernel : ∀ t : Fin grid0.N, _)

/-- The parameters' blocks at a grid point. -/
theorem tile' : ∀ t : Fin cfg0.N, win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The results' blocks at a grid point. -/
theorem tile'' : ∀ t : Fin cfg0.N, win0_8.index t = ![(grid0.coords t 0).val, (grid0.coords t 1).val, 0] ∧ win0_9.index t = ![(grid0.coords t 0).val, (grid0.coords t 1).val, 0] :=
  (by decide +kernel : ∀ t : Fin grid0.N, _)

theorem rows_at (b : FVec Ideal S1x2x32 .f32) (h : Fin 64) : (shapeCast S2x32 b shapeCasts_S1x2x32_S2x32) (ix2 (⟨h.val / 32, by omega⟩ : Fin 2) (⟨h.val % 32, by omega⟩ : Fin 32))
    = b (ix3 (0 : Fin 1) (⟨h.val / 32, by omega⟩ : Fin 2) (⟨h.val % 32, by omega⟩ : Fin 32)) := by
  pointwise []

theorem rate_at (b : FVec Ideal S1x2x32 .f32) (h : Fin 64) : (Host.negf (Host.exp (shapeCast S2x32 b shapeCasts_S1x2x32_S2x32))) (ix2 (⟨h.val / 32, by omega⟩ : Fin 2) (⟨h.val % 32, by omega⟩ : Fin 32))
    = (-Ideal.exp (b (ix3 (0 : Fin 1) (⟨h.val / 32, by omega⟩ : Fin 2) (⟨h.val % 32, by omega⟩ : Fin 32))) : EReal) := by
  pointwise []

section Rows

variable (i : Fin 4) (hi : i.val = (grid0.coords t 0).val)

include hi

theorem x_at (r : Fin 256) (s : Fin 8192) (hs : s.val = ((grid0.coords t 1).val - 1) * 256 + r.val) (e : Fin 1024) : iblk m c 0 t (ix3 (0 : Fin 1) r e) = Xa m c (ix3 i s e) := by
  pointwise []
  blk_point [iblk, V, tile t]

theorem y_at (r : Fin 256) (e : Fin 1024) : iblk m c 1 t (ix3 (0 : Fin 1) r e) = Ya m c (ix3 i r e) := by
  pointwise []
  blk_point [iblk, V, tile t]

theorem hx_emb (r : Fin 256) (s : Fin 8448) (hs : s.val = (grid0.coords t 1).val * 256 + r.val) (e : Fin 1024) : ((cfg0.win 8).blk t).view.emb (ix3 (0 : Fin 1) r e) = ix3 i s e := by
  blk_ext [tile'' t]

theorem dt_emb (r : Fin 256) (s : Fin 8448) (hs : s.val = (grid0.coords t 1).val * 256 + r.val) (q : Fin 128) : ((cfg0.win 9).blk t).view.emb (ix3 (0 : Fin 1) r q) = ix3 i s q := by
  blk_ext [tile'' t]

end Rows

theorem m_at (k : Fin 16) (hk : k.val = if (grid0.coords t 1).val < 1 then 4 else (grid0.coords t 0).val) (e : Fin 3072) : iblk m c 2 t (ix3 (0 : Fin 1) (0 : Fin 1) e) = Ma m c (ix3 k (0 : Fin 1) e) := by
  pointwise []
  blk_point [iblk, V, tile t]

theorem g_at (e : Fin 1024) : iblk m c 3 t (ix2 (0 : Fin 1) e) = Ga m c (ix2 (0 : Fin 1) e) := by
  have h : V m c main_v16 (ix2 (0 : Fin 1) e) = Ga m c (ix2 (0 : Fin 1) e) := by rw [V_g]; pointwise []
  refine Eq.trans ?_ h
  pointwise []
  blk_point [iblk, tile' t]

section Lanes

variable (q : Fin 128) (h : Fin 64) (hq : q.val = h.val)

include hq

theorem hi_at (e : Fin 1024) : iblk m c 4 t (ix2 e q) = Wa m c (ix3 (0 : Fin 1) e (⟨5120 + h.val, by omega⟩ : Fin 9792)) := by
  have h : V m c main_v3 (ix2 e q) = Wa m c (ix3 (0 : Fin 1) e (⟨5120 + h.val, by omega⟩ : Fin 9792)) := by
    rw [V_hi]; pointwise []; exact laidW_at (Wa m c) e q h hq
  refine Eq.trans ?_ h
  pointwise []
  blk_point [iblk, tile' t]

theorem lo_at (e : Fin 1024) : iblk m c 5 t (ix2 e q)
    = (Wa m c (ix3 (0 : Fin 1) e (⟨5120 + h.val, by omega⟩ : Fin 9792)) - Wa m c (ix3 (0 : Fin 1) e (⟨5120 + h.val, by omega⟩ : Fin 9792)) : EReal) := by
  have h : V m c main_v6 (ix2 e q) = (Wa m c (ix3 (0 : Fin 1) e (⟨5120 + h.val, by omega⟩ : Fin 9792)) - Wa m c (ix3 (0 : Fin 1) e (⟨5120 + h.val, by omega⟩ : Fin 9792)) : EReal) := by
    rw [V_lo]; pointwise []; rw [laidW_at (Wa m c) e q h hq]
  refine Eq.trans ?_ h
  pointwise []
  blk_point [iblk, tile' t]

theorem b_at : iblk m c 6 t (ix2 (0 : Fin 1) q) = Ba m c (ix3 (0 : Fin 1) (⟨h.val / 32, by omega⟩ : Fin 2) (⟨h.val % 32, by omega⟩ : Fin 32)) := by
  have h : V m c main_v9 (ix2 (0 : Fin 1) q) = Ba m c (ix3 (0 : Fin 1) (⟨h.val / 32, by omega⟩ : Fin 2) (⟨h.val % 32, by omega⟩ : Fin 32)) := by
    rw [V_b, lanes_at _ q h hq]; exact rows_at (Ba m c) h
  refine Eq.trans ?_ h
  pointwise []
  blk_point [iblk, tile' t]

theorem a_at : iblk m c 7 t (ix2 (0 : Fin 1) q) = (-Ideal.exp (Aa m c (ix3 (0 : Fin 1) (⟨h.val / 32, by omega⟩ : Fin 2) (⟨h.val % 32, by omega⟩ : Fin 32))) : EReal) := by
  have h : V m c main_v14 (ix2 (0 : Fin 1) q) = (-Ideal.exp (Aa m c (ix3 (0 : Fin 1) (⟨h.val / 32, by omega⟩ : Fin 2) (⟨h.val % 32, by omega⟩ : Fin 32))) : EReal) := by
    rw [V_a, lanes_at _ q h hq]; exact rate_at (Aa m c) h
  refine Eq.trans ?_ h
  pointwise []
  blk_point [iblk, tile' t]

end Lanes

end Cert.NormIdeal.Norm

end
-- ==== Proof.NormRef.lean ====
module

public import proofs.«01_k».proof.Proof.Gen.NormRefIdeal
public import proofs.«01_k».proof.Proof.Gen.NormRefIdeal.Run
public import Idealize.ShloMosaic.Lib.Pipeline.ValueKit

/-! The reference's normalized tokens and time steps, entry by entry. -/

@[expose] public section

set_option maxRecDepth 16384

noncomputable section

open Idealize.ShloMosaic Idealize.ShloMosaic.TcCoe Idealize.SL.Sem

namespace Cert.NormRefIdeal.Norm

open Cert.NormRefIdeal Cert.NormRefIdeal.Gen

section Defs

variable {F : FTy → Type} [FloatOps F]

/-- The latent tokens over their root mean squares. -/
def latUnit (x : FVec F S4x8192x1024 .f32) : FVec F S4x8192x1024 .f32 :=
  mulf x (broadcastInDim S4x8192x1024 ![0, 1, 2] bcast_S4x8192x1_S4x8192x1024_0_1_2 (Host.rsqrt (addf (Host.divf (broadcastInDim S4x8192x1 ![0, 1] bcast_S4x8192_S4x8192x1_0_1
    (Host.reduceAdd (mulf x x) (constant S_ .f32 0x00000000#32) reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32)))))

/-- The context's tokens over their root mean squares. -/
def ctxUnit (x : FVec F S4x256x1024 .f32) : FVec F S4x256x1024 .f32 :=
  mulf x (broadcastInDim S4x256x1024 ![0, 1, 2] bcast_S4x256x1_S4x256x1024_0_1_2 (Host.rsqrt (addf (Host.divf (broadcastInDim S4x256x1 ![0, 1] bcast_S4x256_S4x256x1_0_1
    (Host.reduceAdd (mulf x x) (constant S_ .f32 0x00000000#32) reducesTo_S4x256x1024_S4x256_d2 h_S_)) (broadcastInDim S4x256x1 ![] bcast_S_S4x256x1 (constant S_ .f32 0x44800000#32)))
    (broadcastInDim S4x256x1 ![] bcast_S_S4x256x1 (constant S_ .f32 0x358637BD#32)))))

/-- The scale of the normalization, as a stack of one row. -/
def gain (g : FVec F S1x1024 .f32) : FVec F S1x1x1024 .f32 := broadcastInDim S1x1x1024 ![2] bcast_S1024_S1x1x1024_2 (shapeCast _ g shapeCasts_S1x1024_S1024)

/-- The latent tokens' modulation. -/
def latRows (md : FVec F S16x1x3072 .f32) : FVec F S4x1x3072 .f32 := extractStridedSlice S4x1x3072 ![0, 0, 0] md slices_S16x1x3072_S4x1x3072_0_0_0

/-- The context's modulation. -/
def ctxRow (md : FVec F S16x1x3072 .f32) : FVec F S1x3072 .f32 :=
  shapeCast _ (extractStridedSlice S1x1x3072 ![4, 0, 0] md slices_S16x1x3072_S1x1x3072_4_0_0) shapeCasts_S1x1x3072_S1x3072

/-- The modulated latent tokens. -/
def lat (x : FVec F S4x8192x1024 .f32) (md : FVec F S16x1x3072 .f32) (g : FVec F S1x1024 .f32) : FVec F S4x8192x1024 .f32 :=
  addf (mulf (mulf (latUnit x) (broadcastInDim S4x8192x1024 ![0, 1, 2] bcast_S1x1x1024_S4x8192x1024_0_1_2 (gain g)))
      (broadcastInDim S4x8192x1024 ![0, 1, 2] bcast_S4x1x1024_S4x8192x1024_0_1_2 (addf (broadcastInDim S4x1x1024 ![] bcast_S_S4x1x1024 (constant S_ .f32 0x3F800000#32))
        (extractStridedSlice S4x1x1024 ![0, 0, 1024] (latRows md) slices_S4x1x3072_S4x1x1024_0_0_1024))))
    (broadcastInDim S4x8192x1024 ![0, 1, 2] bcast_S4x1x1024_S4x8192x1024_0_1_2 (extractStridedSlice S4x1x1024 ![0, 0, 0] (latRows md) slices_S4x1x3072_S4x1x1024_0_0_0))

/-- The modulated tokens of the context. -/
def ctx (x : FVec F S4x256x1024 .f32) (md : FVec F S16x1x3072 .f32) (g : FVec F S1x1024 .f32) : FVec F S4x256x1024 .f32 :=
  addf (mulf (mulf (ctxUnit x) (broadcastInDim S4x256x1024 ![0, 1, 2] bcast_S1x1x1024_S4x256x1024_0_1_2 (gain g)))
      (broadcastInDim S4x256x1024 ![0, 1, 2] bcast_S1x1x1024_S4x256x1024_0_1_2 (broadcastInDim S1x1x1024 ![1, 2] bcast_S1x1024_S1x1x1024_1_2
        (addf (broadcastInDim S1x1024 ![] bcast_S_S1x1024 (constant S_ .f32 0x3F800000#32)) (extractStridedSlice S1x1024 ![0, 1024] (ctxRow md) slices_S1x3072_S1x1024_0_1024)))))
    (broadcastInDim S4x256x1024 ![0, 1, 2] bcast_S1x1x1024_S4x256x1024_0_1_2 (broadcastInDim S1x1x1024 ![1, 2] bcast_S1x1024_S1x1x1024_1_2
      (extractStridedSlice S1x1024 ![0, 0] (ctxRow md) slices_S1x3072_S1x1024_0_0)))

/-- All tokens, the context's first. -/
def tokens (x : FVec F S4x8192x1024 .f32) (y : FVec F S4x256x1024 .f32) (md : FVec F S16x1x3072 .f32) (g : FVec F S1x1024 .f32) : FVec F S4x8448x1024 .f32 :=
  concatenate S4x8448x1024 1 [⟨S4x256x1024, ctx y md g⟩, ⟨S4x8192x1024, lat x md g⟩] concatenates_S4x256x1024_S4x8192x1024_S4x8448x1024_d1

/-- A pair of rows, repeated for every token. -/
def perHead (b : FVec F S2x32 .f32) : FVec F S4x8448x2x32 .f32 :=
  broadcastInDim S4x8448x2x32 ![0, 1, 2, 3] bcast_S1x1x2x32_S4x8448x2x32_0_1_2_3 (broadcastInDim S1x1x2x32 ![2, 3] bcast_S2x32_S1x1x2x32_2_3 b)

/-- The time steps before the softplus. -/
def raw (H : FVec F S4x8448x1024 .f32) (w : FVec F S1x1024x9792 .f32) (b : FVec F S1x2x32 .f32) : FVec F S4x8448x2x32 .f32 :=
  addf (shapeCast _ (Host.dotGeneral dot_S4x8448x1024_S1024x64_S4x8448x64_2_0_01_1_n_n none H
      (extractStridedSlice S1024x64 ![0, 5120] (shapeCast _ w shapeCasts_S1x1024x9792_S1024x9792) slices_S1024x9792_S1024x64_0_5120)) shapeCasts_S4x8448x64_S4x8448x2x32)
    (perHead (shapeCast _ b shapeCasts_S1x2x32_S2x32))

/-- Zero, everywhere. -/
def zeros : FVec F S4x8448x2x32 .f32 := broadcastInDim S4x8448x2x32 ![] bcast_S_S4x8448x2x32 (constant S_ .f32 0x00000000#32)

/-- The softplus. -/
def softplus (r : FVec F S4x8448x2x32 .f32) : FVec F S4x8448x2x32 .f32 :=
  select (cmpf .une (subf r zeros) (subf r zeros)) (addf r zeros) (addf (maximumf r zeros) (Host.log1p (Host.exp (Host.negf (Host.absf (subf r zeros))))))

/-- The time steps beside the decay exponents. -/
def pair (d : FVec F S4x8448x2x32 .f32) (a : FVec F S1x2x32 .f32) : FVec F S4x8448x128 .f32 :=
  concatenate S4x8448x128 2 [⟨S4x8448x64, shapeCast _ d shapeCasts_S4x8448x2x32_S4x8448x64⟩,
    ⟨S4x8448x64, shapeCast _ (mulf d (perHead (Host.negf (Host.exp (shapeCast _ a shapeCasts_S1x2x32_S2x32))))) shapeCasts_S4x8448x2x32_S4x8448x64⟩]
    concatenates_S4x8448x64_S4x8448x64_S4x8448x128_d2

/-- The reference's first result. -/
def first (x : FVec F S4x8192x1024 .f32) (y : FVec F S4x256x1024 .f32) (md : FVec F S16x1x3072 .f32) (g : FVec F S1x1024 .f32) : FVec F S4x8448x1024 .bf16 :=
  truncf .bf16 (tokens x y md g) bitsLt_bf16_f32

/-- The reference's second result. -/
def second (x : FVec F S4x8192x1024 .f32) (y : FVec F S4x256x1024 .f32) (md : FVec F S16x1x3072 .f32) (g : FVec F S1x1024 .f32) (w : FVec F S1x1024x9792 .f32)
    (b a : FVec F S1x2x32 .f32) : FVec F S4x8448x128 .f32 :=
  pair (softplus (raw (tokens x y md g) w b)) a

set_option maxHeartbeats 2000000 in
theorem second_eq (m : (ℓ : Loc nD τ sig) → Buf (Elt F) ℓ) (c : Dev nD) : Cert.NormRefIdeal.Value.res_main_v70 m c
    = second (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

theorem first_congr {x x' : FVec F S4x8192x1024 .f32} {y y' : FVec F S4x256x1024 .f32} {md md' : FVec F S16x1x3072 .f32} {g g' : FVec F S1x1024 .f32}
    (h0 : x = x') (h1 : y = y') (h2 : md = md') (h3 : g = g') : first x y md g = first x' y' md' g' := by
  subst h0 h1 h2 h3; rfl

theorem second_congr {x x' : FVec F S4x8192x1024 .f32} {y y' : FVec F S4x256x1024 .f32} {md md' : FVec F S16x1x3072 .f32} {g g' : FVec F S1x1024 .f32}
    {w w' : FVec F S1x1024x9792 .f32} {b b' a a' : FVec F S1x2x32 .f32} (h0 : x = x') (h1 : y = y') (h2 : md = md') (h3 : g = g') (h4 : w = w') (h5 : b = b') (h6 : a = a') :
    second x y md g w b a = second x' y' md' g' w' b' a' := by
  subst h0 h1 h2 h3 h4 h5 h6; rfl

end Defs

/-- A normalized and modulated token, from its entries, the normalization's scale, and the modulation's scale and shift. -/
def token (x g sc sh : Fin 1024 → EReal) (e : Fin 1024) : EReal :=
  x e * Ideal.rsqrt (Ideal.div (∑ d : Fin 1024, x d * x d) (Ideal.ofBits .f32 0x44800000#32) + Ideal.ofBits .f32 0x358637BD#32) * g e * (1 + sc e) + sh e

theorem lat_at (x : FVec Ideal S4x8192x1024 .f32) (md : FVec Ideal S16x1x3072 .f32) (g : FVec Ideal S1x1024 .f32) (i : Fin 4) (s : Fin 8192) (e : Fin 1024) :
    lat x md g (ix3 i s e) = token (fun e => x (ix3 i s e)) (fun e => g (ix2 (0 : Fin 1) e)) (fun e => md (ix3 (⟨i.val, by omega⟩ : Fin 16) (0 : Fin 1) (⟨1024 + e.val, by omega⟩ : Fin 3072)))
      (fun e => md (ix3 (⟨i.val, by omega⟩ : Fin 16) (0 : Fin 1) (⟨e.val, by omega⟩ : Fin 3072))) e := by
  pointwise [lat, latUnit, gain, latRows, token]

theorem ctx_at (x : FVec Ideal S4x256x1024 .f32) (md : FVec Ideal S16x1x3072 .f32) (g : FVec Ideal S1x1024 .f32) (i : Fin 4) (s : Fin 256) (e : Fin 1024) :
    ctx x md g (ix3 i s e) = token (fun e => x (ix3 i s e)) (fun e => g (ix2 (0 : Fin 1) e)) (fun e => md (ix3 (4 : Fin 16) (0 : Fin 1) (⟨1024 + e.val, by omega⟩ : Fin 3072)))
      (fun e => md (ix3 (4 : Fin 16) (0 : Fin 1) (⟨e.val, by omega⟩ : Fin 3072))) e := by
  pointwise [ctx, ctxUnit, gain, ctxRow, token]

/-- The tokens' values: the context's first, modulated by the fifth row, then the latent ones, by their own. -/
def value (x : FVec Ideal S4x8192x1024 .f32) (y : FVec Ideal S4x256x1024 .f32) (md : FVec Ideal S16x1x3072 .f32) (g : FVec Ideal S1x1024 .f32) (i : Fin 4) (s : Fin 8448) : Fin 1024 → EReal :=
  if h : s.val < 256 then
    token (fun e => y (ix3 i (⟨s.val, h⟩ : Fin 256) e)) (fun e => g (ix2 (0 : Fin 1) e)) (fun e => md (ix3 (4 : Fin 16) (0 : Fin 1) (⟨1024 + e.val, by omega⟩ : Fin 3072)))
      (fun e => md (ix3 (4 : Fin 16) (0 : Fin 1) (⟨e.val, by omega⟩ : Fin 3072)))
  else
    token (fun e => x (ix3 i (⟨s.val - 256, by omega⟩ : Fin 8192) e)) (fun e => g (ix2 (0 : Fin 1) e))
      (fun e => md (ix3 (⟨i.val, by omega⟩ : Fin 16) (0 : Fin 1) (⟨1024 + e.val, by omega⟩ : Fin 3072))) (fun e => md (ix3 (⟨i.val, by omega⟩ : Fin 16) (0 : Fin 1) (⟨e.val, by omega⟩ : Fin 3072)))

theorem tokens_at (x : FVec Ideal S4x8192x1024 .f32) (y : FVec Ideal S4x256x1024 .f32) (md : FVec Ideal S16x1x3072 .f32) (g : FVec Ideal S1x1024 .f32) (i : Fin 4) (s : Fin 8448) (e : Fin 1024) :
    tokens x y md g (ix3 i s e) = value x y md g i s e := by
  pointwise [tokens]
  by_cases h : s.val < 256
  · rw [dif_pos h, ctx_at, value, dif_pos h]
  · rw [dif_neg h, lat_at, value, dif_neg h]

/-- The softplus of a number. -/
def plus (r : EReal) : EReal := max r 0 + Ideal.log1p (Ideal.exp (-@FloatOps.absf Ideal _ FTy.f32 r))

theorem softplus_at (r : FVec Ideal S4x8448x2x32 .f32) (y) : softplus r y = plus (r y) := by
  pointwise [softplus, zeros, plus]
  rw [if_neg (fun h => h rfl)]

/-- One time step before the softplus. -/
def steep (H : Fin 1024 → EReal) (w : FVec Ideal S1x1024x9792 .f32) (b : FVec Ideal S1x2x32 .f32) (h : Fin 64) : EReal :=
  (∑ e : Fin 1024, H e * w (ix3 (0 : Fin 1) e (⟨5120 + h.val, by omega⟩ : Fin 9792))) + b (ix3 (0 : Fin 1) (⟨h.val / 32, by omega⟩ : Fin 2) (⟨h.val % 32, by omega⟩ : Fin 32))

theorem raw_at (H : FVec Ideal S4x8448x1024 .f32) (w : FVec Ideal S1x1024x9792 .f32) (b : FVec Ideal S1x2x32 .f32) (i : Fin 4) (s : Fin 8448) (h : Fin 64) :
    raw H w b (ix4 i s (⟨h.val / 32, by omega⟩ : Fin 2) (⟨h.val % 32, by omega⟩ : Fin 32)) = steep (fun e => H (ix3 i s e)) w b h := by
  pointwise [raw, perHead, steep]

/-- The decay rate of a head. -/
def rate (a : FVec Ideal S1x2x32 .f32) (h : Fin 64) : EReal := -Ideal.exp (a (ix3 (0 : Fin 1) (⟨h.val / 32, by omega⟩ : Fin 2) (⟨h.val % 32, by omega⟩ : Fin 32)))

theorem pair_lo (d : FVec Ideal S4x8448x2x32 .f32) (a : FVec Ideal S1x2x32 .f32) (i : Fin 4) (s : Fin 8448) (q : Fin 128) (h : Fin 64) (hq : q.val = h.val) :
    pair d a (ix3 i s q) = d (ix4 i s (⟨h.val / 32, by omega⟩ : Fin 2) (⟨h.val % 32, by omega⟩ : Fin 32)) := by
  obtain rfl : q = ⟨h.val, Nat.lt_of_lt_of_le h.isLt (by decide)⟩ := Fin.ext hq
  pointwise [pair]

theorem pair_hi (d : FVec Ideal S4x8448x2x32 .f32) (a : FVec Ideal S1x2x32 .f32) (i : Fin 4) (s : Fin 8448) (q : Fin 128) (h : Fin 64) (hq : q.val = 64 + h.val) :
    pair d a (ix3 i s q) = (d (ix4 i s (⟨h.val / 32, by omega⟩ : Fin 2) (⟨h.val % 32, by omega⟩ : Fin 32)) * rate a h : EReal) := by
  obtain rfl : q = ⟨64 + h.val, Nat.add_lt_add_left h.isLt 64⟩ := Fin.ext hq
  pointwise [pair, perHead, rate]

section Values

variable (x : FVec Ideal S4x8192x1024 .f32) (y : FVec Ideal S4x256x1024 .f32) (md : FVec Ideal S16x1x3072 .f32) (g : FVec Ideal S1x1024 .f32)
  (w : FVec Ideal S1x1024x9792 .f32) (b a : FVec Ideal S1x2x32 .f32) (i : Fin 4) (s : Fin 8448)

theorem first_at (e : Fin 1024) : first x y md g (ix3 i s e) = value x y md g i s e := by
  rw [← tokens_at]
  pointwise [first]

theorem second_lo (q : Fin 128) (h : Fin 64) (hq : q.val = h.val) : second x y md g w b a (ix3 i s q) = plus (steep (value x y md g i s) w b h) := by
  rw [second, pair_lo _ _ i s q h hq, softplus_at, raw_at]
  simp only [tokens_at]

theorem second_hi (q : Fin 128) (h : Fin 64) (hq : q.val = 64 + h.val) : second x y md g w b a (ix3 i s q) = plus (steep (value x y md g i s) w b h) * rate a h := by
  rw [second, pair_hi _ _ i s q h hq, softplus_at, raw_at]
  simp only [tokens_at]

end Values

end Cert.NormRefIdeal.Norm

end
-- ==== Proof.NormValue.lean ====
module

public import proofs.«01_k».proof.Proof.NormBlocks
public import proofs.«01_k».proof.Proof.NormRef
public import Idealize.ShloMosaic.Lib.Claim

/-! The normalization call's two results are the reference's modulated tokens and time steps. -/

@[expose] public section

set_option maxRecDepth 16384

noncomputable section

open Idealize.ShloMosaic Idealize.ShloMosaic.TcCoe Idealize.SL.Sem
open Idealize.ShloMosaic.Pipeline (Dat)

namespace Cert.NormIdeal.Norm

open Cert.NormIdeal Cert.NormIdeal.Gen
open Cert.NormRefIdeal.Norm (token value plus steep rate first second first_at second_lo second_hi)

/-- The block is of the context's tokens. -/
theorem ctx_flag (a : ℕ) (ha : a < 33) : Scalar.cmpi .slt (BitVec.ofNat 32 a) 1#32 = if a < 1 then 1#1 else 0#1 := by
  interval_cases a <;> rfl

theorem select_ite {α : Type} (p : Prop) [Decidable p] (x y : α) : Scalar.select (if p then 1#1 else 0#1) x y = if p then x else y := by
  split_ifs <;> rfl

/-- One entry of the tokens a point stores. -/
theorem token_at (g : grid0.Coords) (y x : FVec Ideal S1x256x1024 .f32) (G : FVec Ideal S1x1024 .f32) (M : FVec Ideal S1x1x3072 .f32) (r : Fin 256) (e : Fin 1024) :
    k0_pay2 (F := Ideal) g y x G M (ix2 r e) = token (fun e => if (g 1).val < 1 then y (ix3 (0 : Fin 1) r e) else x (ix3 (0 : Fin 1) r e)) (fun e => G (ix2 (0 : Fin 1) e))
      (fun e => M (ix3 (0 : Fin 1) (0 : Fin 1) (⟨1024 + e.val, by omega⟩ : Fin 3072))) (fun e => M (ix3 (0 : Fin 1) (0 : Fin 1) (⟨e.val, by omega⟩ : Fin 3072))) e := by
  unfold k0_pay2
  simp only [ctx_flag _ (g 1).isLt, select_ite]
  by_cases h : (g 1).val < 1
  · simp only [if_pos h]
    pointwise [token]
  · simp only [if_neg h]
    pointwise [token]

/-- One time step a point stores: the product with the two halves of the weights, side by side. -/
theorem step_lo (H : FVec Ideal S256x1024 .bf16) (w w' : FVec Ideal S1024x128 .bf16) (b a : FVec Ideal S1x128 .f32) (r : Fin 256) (q : Fin 128) (hq : q.val < 64) :
    k0_pay1 (F := Ideal) H (k0_pay4 w) w' b a (ix3 (0 : Fin 1) r q)
      = plus ((∑ e : Fin 1024, H (ix2 r e) * w (ix2 e q)) + (∑ e : Fin 1024, H (ix2 r e) * w' (ix2 e q)) + b (ix2 (0 : Fin 1) q)) := by
  pointwise [k0_pay1, k0_pay4, plus]
  simp only [dif_pos hq, zero_sub]

/-- One decay exponent a point stores. -/
theorem step_hi (H : FVec Ideal S256x1024 .bf16) (w w' : FVec Ideal S1024x128 .bf16) (b a : FVec Ideal S1x128 .f32) (r : Fin 256) (q p : Fin 128) (hq : q.val = 64 + p.val) :
    k0_pay1 (F := Ideal) H (k0_pay4 w) w' b a (ix3 (0 : Fin 1) r q)
      = plus ((∑ e : Fin 1024, H (ix2 r e) * w (ix2 e p)) + (∑ e : Fin 1024, H (ix2 r e) * w' (ix2 e p)) + b (ix2 (0 : Fin 1) p)) * a (ix2 (0 : Fin 1) p) := by
  have hn : ¬q.val < 64 := by omega
  have hs : q.val - 64 = p.val := by omega
  pointwise [k0_pay1, k0_pay4, plus]
  simp only [dif_neg hn, zero_sub, hs, dif_pos p.isLt]

/-- With finite weights the second half adds nothing. -/
theorem halves (H w w' : Fin 1024 → EReal) (b : EReal) (h : ∀ e, w' e = w e - w e) (hf : ∀ e, w e ≠ ⊤ ∧ w e ≠ ⊥) : (∑ e, H e * w e) + (∑ e, H e * w' e) + b = (∑ e, H e * w e) + b := by
  have h0 : ∀ e, w' e = 0 := fun e => (h e).trans (EReal.sub_self (hf e).1 (hf e).2)
  simp only [h0, mul_zero, Finset.sum_const_zero, add_zero]

variable (m : (ℓ : Loc nD τ sig) → Buf (Elt Ideal) ℓ) (c : Dev nD) (t : Fin cfg0.N)

section Point

variable (i : Fin 4) (hi : i.val = (grid0.coords t 0).val) (r : Fin 256) (s : Fin 8448) (hs : s.val = (grid0.coords t 1).val * 256 + r.val)

include hi hs

/-- The tokens a point stores. -/
theorem row_at (e : Fin 1024) : k0_pay2 (F := Ideal) (grid0.coords t) (iblk m c 1 t) (iblk m c 0 t) (iblk m c 3 t) (iblk m c 2 t) (ix2 r e) = value (Xa m c) (Ya m c) (Ma m c) (Ga m c) i s e := by
  have ha : (grid0.coords t 1).val < 33 := (grid0.coords t 1).isLt
  refine (token_at (grid0.coords t) (iblk m c 1 t) (iblk m c 0 t) (iblk m c 3 t) (iblk m c 2 t) r e).trans ?_
  by_cases h : (grid0.coords t 1).val < 1
  · have h' : s.val < 256 := by omega
    have hr : (⟨s.val, h'⟩ : Fin 256) = r := Fin.ext (by show s.val = r.val; omega)
    simp only [if_pos h, value, dif_pos h', hr, y_at m c t i hi, g_at, m_at m c t 4 (by rw [if_pos h]; rfl)]
  · have h' : ¬s.val < 256 := by omega
    simp only [if_neg h, value, dif_neg h', x_at m c t i hi r ⟨s.val - 256, by omega⟩ (by show s.val - 256 = _; omega), g_at,
      m_at m c t (⟨i.val, by omega⟩ : Fin 16) (by rw [if_neg h]; exact hi)]

/-- The time steps a point stores, of finite weights. -/
theorem dt_at (hf : Finite m c) (q : Fin 128) : k0_pay1 (F := Ideal) (k0_pay2 (grid0.coords t) (iblk m c 1 t) (iblk m c 0 t) (iblk m c 3 t) (iblk m c 2 t)) (k0_pay4 (iblk m c 4 t)) (iblk m c 5 t)
    (iblk m c 6 t) (iblk m c 7 t) (ix3 (0 : Fin 1) r q) = second (F := Ideal) (Xa m c) (Ya m c) (Ma m c) (Ga m c) (Wa m c) (Ba m c) (Aa m c) (ix3 i s q) := by
  by_cases hq : q.val < 64
  · obtain ⟨h, hh⟩ : ∃ h : Fin 64, q.val = h.val := ⟨⟨q.val, hq⟩, rfl⟩
    rw [second_lo _ _ _ _ _ _ _ i s q h hh]
    refine (step_lo _ (iblk m c 4 t) (iblk m c 5 t) (iblk m c 6 t) (iblk m c 7 t) r q hq).trans (congrArg plus ?_)
    refine (halves _ (fun e => iblk m c 4 t (ix2 e q)) (fun e => iblk m c 5 t (ix2 e q)) _ (fun e => ?_) (fun e => ?_)).trans ?_
    · rw [hi_at m c t q h hh e, lo_at m c t q h hh e]
    · rw [hi_at m c t q h hh e]; exact hf e h
    · simp only [row_at m c t i hi r s hs, hi_at m c t q h hh, b_at m c t q h hh, steep]
  · obtain ⟨h, hh⟩ : ∃ h : Fin 64, q.val = 64 + h.val := ⟨⟨q.val - 64, by omega⟩, by show q.val = 64 + (q.val - 64); omega⟩
    obtain ⟨p, hp⟩ : ∃ p : Fin 128, p.val = h.val := ⟨⟨h.val, by omega⟩, rfl⟩
    rw [second_hi _ _ _ _ _ _ _ i s q h hh]
    refine (step_hi _ (iblk m c 4 t) (iblk m c 5 t) (iblk m c 6 t) (iblk m c 7 t) r q p (by omega)).trans (congrArg₂ (· * ·) (congrArg plus ?_) (a_at m c t p h hp))
    refine (halves _ (fun e => iblk m c 4 t (ix2 e p)) (fun e => iblk m c 5 t (ix2 e p)) _ (fun e => ?_) (fun e => ?_)).trans ?_
    · rw [hi_at m c t p h hp e, lo_at m c t p h hp e]
    · rw [hi_at m c t p h hp e]; exact hf e h
    · simp only [row_at m c t i hi r s hs, hi_at m c t p h hp, b_at m c t p h hp, steep]

end Point

theorem cast_at (g : grid0.Coords) (y x : FVec Ideal S1x256x1024 .f32) (G : FVec Ideal S1x1024 .f32) (M : FVec Ideal S1x1x3072 .f32) (r : Fin 256) (e : Fin 1024) :
    k0_pay3 (F := Ideal) g y x G M (ix3 (0 : Fin 1) r e) = k0_pay2 (F := Ideal) g y x G M (ix2 r e) := by
  unfold k0_pay3
  generalize k0_pay2 (F := Ideal) g y x G M = H
  pointwise []

theorem hx_eq (z : S1x256x1024.Idx) : k0_pay3 (F := Ideal) (grid0.coords t) (iblk m c 1 t) (iblk m c 0 t) (iblk m c 3 t) (iblk m c 2 t) z
    = first (F := Ideal) (Xa m c) (Ya m c) (Ma m c) (Ga m c) (((cfg0.win 8).blk t).view.emb z) := by
  obtain ⟨r, e, rfl⟩ : ∃ r e, z = ix3 (n0 := 1) (n1 := 256) (n2 := 1024) (0 : Fin 1) r e :=
    ⟨z 1, z 2, by funext a; match a with | ⟨0, _⟩ => exact Subsingleton.elim (α := Fin 1) _ _ | ⟨1, _⟩ => rfl | ⟨2, _⟩ => rfl⟩
  have ht1 : (grid0.coords t 1).val < 33 := (grid0.coords t 1).isLt
  obtain ⟨i, hi⟩ : ∃ i : Fin 4, i.val = (grid0.coords t 0).val := ⟨⟨_, (grid0.coords t 0).isLt⟩, rfl⟩
  obtain ⟨s, hs⟩ : ∃ s : Fin 8448, s.val = (grid0.coords t 1).val * 256 + r.val := ⟨⟨_, by omega⟩, rfl⟩
  rw [hx_emb t i hi r s hs, first_at]
  exact (cast_at (grid0.coords t) (iblk m c 1 t) (iblk m c 0 t) (iblk m c 3 t) (iblk m c 2 t) r e).trans (row_at m c t i hi r s hs e)

theorem dt_eq (hf : Finite m c) (z : S1x256x128.Idx) : k0_pay1 (F := Ideal) (k0_pay2 (grid0.coords t) (iblk m c 1 t) (iblk m c 0 t) (iblk m c 3 t) (iblk m c 2 t)) (k0_pay4 (iblk m c 4 t)) (iblk m c 5 t)
    (iblk m c 6 t) (iblk m c 7 t) z = second (F := Ideal) (Xa m c) (Ya m c) (Ma m c) (Ga m c) (Wa m c) (Ba m c) (Aa m c) (((cfg0.win 9).blk t).view.emb z) := by
  obtain ⟨r, q, rfl⟩ : ∃ r q, z = ix3 (n0 := 1) (n1 := 256) (n2 := 128) (0 : Fin 1) r q :=
    ⟨z 1, z 2, by funext a; match a with | ⟨0, _⟩ => exact Subsingleton.elim (α := Fin 1) _ _ | ⟨1, _⟩ => rfl | ⟨2, _⟩ => rfl⟩
  have ht1 : (grid0.coords t 1).val < 33 := (grid0.coords t 1).isLt
  obtain ⟨i, hi⟩ : ∃ i : Fin 4, i.val = (grid0.coords t 0).val := ⟨⟨_, (grid0.coords t 0).isLt⟩, rfl⟩
  obtain ⟨s, hs⟩ : ∃ s : Fin 8448, s.val = (grid0.coords t 1).val * 256 + r.val := ⟨⟨_, by omega⟩, rfl⟩
  rw [dt_emb t i hi r s hs]
  exact dt_at m c t i hi r s hs hf q

/-- The tokens after the run. -/
theorem hx_result : (dats m 0 c).arrAt 8 (cfgs 0).N = first (F := Ideal) (Xa m c) (Ya m c) (Ma m c) (Ga m c) := by
  refine (dats m 0 c).arrAt_eq_of_covers 8 _ (by decide +kernel) fun t _ z => ?_
  blk_simp
  rw [after0_8]; frame_out
  exact hx_eq m c t z

/-- The time steps after the run, of finite weights. -/
theorem dt_result (hf : Finite m c) : (dats m 0 c).arrAt 9 (cfgs 0).N = second (F := Ideal) (Xa m c) (Ya m c) (Ma m c) (Ga m c) (Wa m c) (Ba m c) (Aa m c) := by
  refine (dats m 0 c).arrAt_eq_of_covers 9 _ (by decide +kernel) fun t _ z => ?_
  blk_simp
  rw [after0_9]; frame_out
  exact dt_eq m c t hf z

set_option maxHeartbeats 2000000 in
/-- The two programs end with equal results. -/
theorem algebraic : Cert.algebraic_NormIdeal_NormRefIdeal_pre_finite_steps := by
  pair_intro
  · run_from Cert.NormIdeal.Gen.run_main m g
    all_goals
      simp only [hostOps0, hostOps0_1, hostOps0_2, hostOps0_3, hostOps0_4, hostOps0_5, hostOps0_6, List.flatten_cons, List.flatten_nil, List.cons_append, List.nil_append, List.append_nil,
        StableHlo.TRef.unary, StableHlo.TRef.binary, StableHlo.TRef.toBuf, StableHlo.TRef.ofBuf, cast_eq]
      after_results_simp <;> rfl
  · run_from Cert.NormRefIdeal.Value.run m' g'
    all_goals obtain ⟨h0, h1, h2, h3, h4, h5, h6⟩ := hagree c
    · exact (hx_result m c).symm
    · exact (Cert.NormRefIdeal.Norm.second_eq m' c).trans ((Cert.NormRefIdeal.Norm.second_congr h0 h1 h2 h3 h4 h5 h6).trans (dt_result m c (finite_of_pre m ‹_› c)).symm)

end Cert.NormIdeal.Norm

end
-- ==== Proof.lean ====
module

public import proofs.«01_k».proof.Defs
public import proofs.«01_k».proof.Proof.Frames
public import proofs.«01_k».proof.Proof.InProjValue
public import proofs.«01_k».proof.Proof.MergeValue
public import proofs.«01_k».proof.Proof.ModValue
public import proofs.«01_k».proof.Proof.ConvValue
public import proofs.«01_k».proof.Proof.AttnValue
public import proofs.«01_k».proof.Proof.NormValue
public import proofs.«01_k».proof.Proof.Gen.MergeIdeal.Value
public import proofs.«01_k».proof.Proof.Gen.MergeRefIdeal.Run
public import proofs.«01_k».proof.Proof.Gen.ReferenceIdeal.Run
public import proofs.«01_k».proof.Proof.Gen.ConvIdeal.Value
public import proofs.«01_k».proof.Proof.Gen.ModRefIdeal.Run
public import proofs.«01_k».proof.Proof.Gen.ConvRefIdeal.Run
public import proofs.«01_k».proof.Proof.Gen.NormIdeal.Value
public import proofs.«01_k».proof.Proof.Gen.NormRefIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.Mod.Gen.facts, Cert.ModIdeal.Gen.facts, Cert.ModRefIdeal.Gen.facts, Cert.Conv.Gen.facts, Cert.ConvIdeal.Gen.facts, Cert.ConvRefIdeal.Gen.facts, Cert.Norm.Gen.facts, Cert.NormIdeal.Gen.facts, Cert.NormRefIdeal.Gen.facts, Cert.Pre_finite_scores.Gen.facts, Cert.Pre_finite_weights.Gen.facts, Cert.Pre_finite_steps.Gen.facts,
  Cert.FrameClaims.attn, Cert.FrameClaims.attnIdeal, Cert.FrameClaims.attnIdealPre, Cert.FrameClaims.attnRef, Cert.FrameClaims.attnRefPre,
  Cert.FrameClaims.inProj, Cert.FrameClaims.inProjIdeal, Cert.FrameClaims.inProjRef,
  Cert.FrameClaims.merge, Cert.FrameClaims.mergeIdeal, Cert.FrameClaims.mergeRef,
  Cert.FrameClaims.mod, Cert.FrameClaims.modIdeal, Cert.FrameClaims.modIdealPre, Cert.FrameClaims.modRef, Cert.FrameClaims.modRefPre,
  Cert.FrameClaims.conv, Cert.FrameClaims.convIdeal, Cert.FrameClaims.convRef,
  Cert.FrameClaims.norm, Cert.FrameClaims.normIdeal, Cert.FrameClaims.normIdealPre, Cert.FrameClaims.normRef, Cert.FrameClaims.normRefPre,
  trivial, Cert.KernelIdeal.Attn.algebraic, trivial, Cert.InProjIdeal.Value.algebraic, trivial, Cert.MergeIdeal.Merge.algebraic,
  trivial, Cert.ModIdeal.Value.algebraic, trivial, Cert.ConvIdeal.Conv.algebraic, trivial, Cert.NormIdeal.Norm.algebraic⟩

end Cert.Proof

end
